-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_and_gate_finite [hPre_x_and_gate_finite : Cert.Pre_x_and_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_and_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_and_gate_finite [hPre_x_and_gate_finite : Cert.Pre_x_and_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_and_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_and_gate_finite [hKernelIdeal : Cert.KernelIdeal.Facts] [hPre_x_and_gate_finite : Cert.Pre_x_and_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_and_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_and_gate_finite [hReferenceIdeal : Cert.ReferenceIdeal.Facts] [hPre_x_and_gate_finite : Cert.Pre_x_and_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_and_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_em1" .f32 0x3E124925#32 ((1 / 7 : ℝ) : EReal)

def algebraic_KernelIdeal_ReferenceIdeal_pre_x_and_gate_finite [hKernelIdeal : Cert.KernelIdeal.Facts] [hReferenceIdeal : Cert.ReferenceIdeal.Facts] [hPre_x_and_gate_finite : Cert.Pre_x_and_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_and_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_and_gate_finite : Cert.Pre_x_and_gate_finite.Facts),
    quiescent_Kernel (hKernel := hKernel)
    ∧ quiescent_KernelIdeal (hKernelIdeal := hKernelIdeal)
    ∧ quiescent_KernelIdeal_pre_x_and_gate_finite (hKernelIdeal := hKernelIdeal) (hPre_x_and_gate_finite := hPre_x_and_gate_finite)
    ∧ quiescent_ReferenceIdeal (hReferenceIdeal := hReferenceIdeal)
    ∧ quiescent_ReferenceIdeal_pre_x_and_gate_finite (hReferenceIdeal := hReferenceIdeal) (hPre_x_and_gate_finite := hPre_x_and_gate_finite)
    ∧ preserves_Kernel_KernelIdeal
    ∧ algebraic_KernelIdeal_ReferenceIdeal_pre_x_and_gate_finite (hKernelIdeal := hKernelIdeal) (hReferenceIdeal := hReferenceIdeal) (hPre_x_and_gate_finite := hPre_x_and_gate_finite)
-- ==== Pre_x_and_gate_finite.lean ====
abbrev S1x2048x1024 : Shape := ⟨3, ![1, 2048, 1024]⟩
abbrev S1024x8 : Shape := ⟨2, ![1024, 8]⟩
abbrev S8x256x1024 : Shape := ⟨3, ![8, 256, 1024]⟩
abbrev S8x256 : Shape := ⟨2, ![8, 256]⟩
abbrev S8x1024x256 : Shape := ⟨3, ![8, 1024, 256]⟩
abbrev S8x1024 : Shape := ⟨2, ![8, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8x256x1024 .f32) (main_arg3 : FVec F S8x256 .f32) (main_arg4 : FVec F S8x1024x256 .f32) (main_arg5 : FVec F S8x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S1x2048x1024 : Shape := ⟨3, ![1, 2048, 1024]⟩
abbrev S1024x8 : Shape := ⟨2, ![1024, 8]⟩
abbrev S8x256x1024 : Shape := ⟨3, ![8, 256, 1024]⟩
abbrev S8x256 : Shape := ⟨2, ![8, 256]⟩
abbrev S8x1024x256 : Shape := ⟨3, ![8, 1024, 256]⟩
abbrev S8x1024 : Shape := ⟨2, ![8, 1024]⟩
abbrev S2048x1024 : Shape := ⟨2, ![2048, 1024]⟩
abbrev S1x2048 : Shape := ⟨2, ![1, 2048]⟩
abbrev S1x1 : Shape := ⟨2, ![1, 1]⟩
abbrev S1024x1024 : Shape := ⟨2, ![1024, 1024]⟩
abbrev S1x8 : Shape := ⟨2, ![1, 8]⟩
abbrev S1x1024 : Shape := ⟨2, ![1, 1024]⟩
abbrev S1024 : Shape := ⟨1, ![1024]⟩
abbrev S1024x1 : Shape := ⟨2, ![1024, 1]⟩
abbrev S8 : Shape := ⟨1, ![8]⟩
abbrev S1024x2048 : Shape := ⟨2, ![1024, 2048]⟩
abbrev S1024x256 : Shape := ⟨2, ![1024, 256]⟩
abbrev S1x1x8 : Shape := ⟨3, ![1, 1, 8]⟩
abbrev S1 : Shape := ⟨1, ![1]⟩
abbrev S1x1x1 : Shape := ⟨3, ![1, 1, 1]⟩
abbrev S1x1x1024 : Shape := ⟨3, ![1, 1, 1024]⟩
abbrev S_ : Shape := ⟨0, ![]⟩

abbrev nBuf : Space → Nat
  | .hbm => 13
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x256x1024, .f32⟩
  | .hbm, ⟨3, _⟩ => ⟨S8x256, .f32⟩
  | .hbm, ⟨4, _⟩ => ⟨S8x1024x256, .f32⟩
  | .hbm, ⟨5, _⟩ => ⟨S8x1024, .f32⟩
  | .hbm, ⟨6, _⟩ => ⟨S2048x1024, .f32⟩
  | .hbm, ⟨7, _⟩ => ⟨S2048x1024, .f32⟩
  | .hbm, ⟨8, _⟩ => ⟨S1x2048, .f32⟩
  | .hbm, ⟨9, _⟩ => ⟨S2048x1024, .f32⟩
  | .hbm, ⟨10, _⟩ => ⟨S1x1, .f32⟩
  | .hbm, ⟨11, _⟩ => ⟨S1x2048x1024, .f32⟩
  | .hbm, ⟨12, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x8, .f32⟩
  | .local _ .vmem, ⟨3, _⟩ => ⟨S2048x1024, .f32⟩
  | .local _ .vmem, ⟨4, _⟩ => ⟨S1x2048, .f32⟩
  | .local _ .vmem, ⟨5, _⟩ => ⟨S8x1024x256, .f32⟩
  | .local _ .vmem, ⟨6, _⟩ => ⟨S8x1024, .f32⟩
  | .local _ .vmem, ⟨7, _⟩ => ⟨S1024x1024, .f32⟩
  | .local _ .vmem, ⟨8, _⟩ => ⟨S1024x1024, .f32⟩
  | .local _ .vmem, ⟨9, _⟩ => ⟨S1x1, .f32⟩
  | .local _ .vmem, ⟨10, _⟩ => ⟨S1x8, .f32⟩
  | .local _ .vmem, ⟨11, _⟩ => ⟨S1x8, .f32⟩
  | .local _ .vmem, ⟨12, _⟩ => ⟨S1x1024, .f32⟩
  | .local _ .vmem, ⟨13, _⟩ => ⟨S2048x1024, .bf16⟩
  | .local _ .vmem, ⟨14, _⟩ => ⟨S2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v132 : BitVec 1 := Scalar.cmpi .eq arg0 c1_i32
  let v133 : BitVec 32 := Scalar.extui v132
  let c0_i32_45 : BitVec 32 := 0#32
  let v134 : BitVec 1 := Scalar.cmpi .ne v133 c0_i32_45
  v134

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_em1" => some ((1 / 7 : ℝ) : EReal)
  | _ => none
-- ==== ReferenceIdeal.lean ====
abbrev S1x2048x1024 : Shape := ⟨3, ![1, 2048, 1024]⟩
abbrev S1024x8 : Shape := ⟨2, ![1024, 8]⟩
abbrev S8x256x1024 : Shape := ⟨3, ![8, 256, 1024]⟩
abbrev S8x256 : Shape := ⟨2, ![8, 256]⟩
abbrev S8x1024x256 : Shape := ⟨3, ![8, 1024, 256]⟩
abbrev S8x1024 : Shape := ⟨2, ![8, 1024]⟩
abbrev S2048x1024 : Shape := ⟨2, ![2048, 1024]⟩
abbrev S2048x8 : Shape := ⟨2, ![2048, 8]⟩
abbrev S2048x3 : Shape := ⟨2, ![2048, 3]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S8 : Shape := ⟨1, ![8]⟩
abbrev S1 : Shape := ⟨1, ![1]⟩
abbrev S2048x8x256 : Shape := ⟨3, ![2048, 8, 256]⟩
abbrev S1x8x256 : Shape := ⟨3, ![1, 8, 256]⟩
abbrev S8x1024x2048 : Shape := ⟨3, ![8, 1024, 2048]⟩
abbrev S2048x8x1024 : Shape := ⟨3, ![2048, 8, 1024]⟩
abbrev S1x8x1024 : Shape := ⟨3, ![1, 8, 1024]⟩

abbrev nBuf : Space → Nat
  | .hbm => 142
  | .vmem => 0
  | .smem => 0
  | _ => 0

abbrev hbmTy0_0 (i : Nat) : BufTy := match i % 128 with
  | 0 => ⟨S1x2048x1024, .f32⟩
  | 1 => ⟨S1024x8, .f32⟩
  | 2 => ⟨S8x256x1024, .f32⟩
  | 3 => ⟨S8x256, .f32⟩
  | 4 => ⟨S8x1024x256, .f32⟩
  | 5 => ⟨S8x1024, .f32⟩
  | 6 => ⟨S2048x1024, .f32⟩
  | 7 => ⟨S2048x8, .f32⟩
  | 8 => ⟨S2048x3, .f32⟩
  | 9 => ⟨S2048x3, .i32⟩
  | 10 => ⟨S2048x2, .f32⟩
  | 11 => ⟨S2048x2, .i32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x2, .f32⟩
  | 19 => ⟨S2048x2, .f32⟩
  | 20 => ⟨S2048x2, .f32⟩
  | 21 => ⟨S_, .f32⟩
  | 22 => ⟨S2048, .f32⟩
  | 23 => ⟨S2048x1, .f32⟩
  | 24 => ⟨S2048x2, .f32⟩
  | 25 => ⟨S2048x2, .f32⟩
  | 26 => ⟨S2048, .i32⟩
  | 27 => ⟨S2048x1, .i32⟩
  | 28 => ⟨S_, .f32⟩
  | 29 => ⟨S2048x8, .f32⟩
  | 30 => ⟨S_, .i32⟩
  | 31 => ⟨S2048x1, .i32⟩
  | 32 => ⟨S2048x1, .i1⟩
  | 33 => ⟨S_, .i32⟩
  | 34 => ⟨S2048x1, .i32⟩
  | 35 => ⟨S2048x1, .i32⟩
  | 36 => ⟨S2048x1, .i32⟩
  | 37 => ⟨S_, .i32⟩
  | 38 => ⟨S2048x2, .i32⟩
  | 39 => ⟨S2048x2, .i1⟩
  | 40 => ⟨S_, .i32⟩
  | 41 => ⟨S2048x2, .i32⟩
  | 42 => ⟨S2048x2, .i32⟩
  | 43 => ⟨S2048x2, .i32⟩
  | 44 => ⟨S2048x2, .i32⟩
  | 45 => ⟨S2048x2x1, .i32⟩
  | 46 => ⟨S2048x2x1, .i32⟩
  | 47 => ⟨S2048x2x2, .i32⟩
  | 48 => ⟨S2048x8, .f32⟩
  | 49 => ⟨S_, .f32⟩
  | 50 => ⟨S8, .f32⟩
  | 51 => ⟨S_, .f32⟩
  | 52 => ⟨S2048x8, .f32⟩
  | 53 => ⟨S2048x8, .i1⟩
  | 54 => ⟨S2048x8, .i32⟩
  | 55 => ⟨S_, .i32⟩
  | 56 => ⟨S8, .i32⟩
  | 57 => ⟨S_, .i32⟩
  | 58 => ⟨S_, .f32⟩
  | 59 => ⟨S_, .f32⟩
  | 60 => ⟨S1, .f32⟩
  | 61 => ⟨S_, .f32⟩
  | 62 => ⟨S1, .f32⟩
  | 63 => ⟨S1, .f32⟩
  | 64 => ⟨S8, .f32⟩
  | 65 => ⟨S8, .f32⟩
  | 66 => ⟨S8, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .i1⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S8, .f32⟩
  | 87 => ⟨S_, .i32⟩
  | 88 => ⟨S_, .f32⟩
  | 89 => ⟨S_, .f32⟩
  | 90 => ⟨S1, .f32⟩
  | 91 => ⟨S_, .f32⟩
  | 92 => ⟨S1, .f32⟩
  | 93 => ⟨S1, .f32⟩
  | 94 => ⟨S8, .f32⟩
  | 95 => ⟨S8, .f32⟩
  | 96 => ⟨S8, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S2048x8x256, .f32⟩
  | 120 => ⟨S1x8x256, .f32⟩
  | 121 => ⟨S2048x8x256, .f32⟩
  | 122 => ⟨S2048x8x256, .f32⟩
  | 123 => ⟨S_, .f32⟩
  | 124 => ⟨S2048x8x256, .f32⟩
  | 125 => ⟨S2048x8x256, .f32⟩
  | 126 => ⟨S8x1024x2048, .f32⟩
  | 127 => ⟨S2048x8x1024, .f32⟩
  | _ => ⟨S1x2048x1024, .f32⟩

abbrev hbmTy0_1 (i : Nat) : BufTy := match i % 128 with
  | 0 => ⟨S1x8x1024, .f32⟩
  | 1 => ⟨S2048x8x1024, .f32⟩
  | 2 => ⟨S2048x8x1024, .f32⟩
  | 3 => ⟨S2048x1024, .f32⟩
  | 4 => ⟨S1x2048x1024, .f32⟩
  | 5 => ⟨S1x2048x1024, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S1x2048x1024, .f32⟩
  | 13 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_values : Ref sig .tc := ⟨.hbm, 8, rfl⟩
abbrev main_indices : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_c_9 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_cst_3 : Ref sig .tc := ⟨.hbm, 73, rfl⟩
abbrev main_call0_v11 : Ref sig .tc := ⟨.hbm, 74, rfl⟩
abbrev main_call0_cst_4 : Ref sig .tc := ⟨.hbm, 75, rfl⟩
abbrev main_call0_call0_v0 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_v41 : Ref sig .tc := ⟨.hbm, 82, rfl⟩
abbrev main_cst_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_13 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_cst_3 : Ref sig .tc := ⟨.hbm, 103, rfl⟩
abbrev main_call1_v11 : Ref sig .tc := ⟨.hbm, 104, rfl⟩
abbrev main_call1_cst_4 : Ref sig .tc := ⟨.hbm, 105, rfl⟩
abbrev main_call1_call0_v0 : Ref sig .tc := ⟨.hbm, 106, rfl⟩
abbrev main_v45 : Ref sig .tc := ⟨.hbm, 107, rfl⟩
abbrev main_cst_14 : Ref sig .tc := ⟨.hbm, 108, rfl⟩
abbrev main_v46 : Ref sig .tc := ⟨.hbm, 109, rfl⟩
abbrev main_cst_15 : Ref sig .tc := ⟨.hbm, 110, rfl⟩
abbrev main_v47 : Ref sig .tc := ⟨.hbm, 111, rfl⟩
abbrev main_v48 : Ref sig .tc := ⟨.hbm, 112, rfl⟩
abbrev main_cst_16 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_cst_17 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_call2_cst : Ref sig .tc := ⟨.hbm, 123, rfl⟩
abbrev main_call2_v0 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_cst_18 : Ref sig .tc := ⟨.hbm, 134, rfl⟩
abbrev main_v66 : Ref sig .tc := ⟨.hbm, 135, rfl⟩
abbrev main_cst_19 : Ref sig .tc := ⟨.hbm, 136, rfl⟩
abbrev main_v67 : Ref sig .tc := ⟨.hbm, 137, rfl⟩
abbrev main_v68 : Ref sig .tc := ⟨.hbm, 138, rfl⟩
abbrev main_cst_20 : Ref sig .tc := ⟨.hbm, 139, rfl⟩
abbrev main_v69 : Ref sig .tc := ⟨.hbm, 140, rfl⟩
abbrev main_v70 : Ref sig .tc := ⟨.hbm, 141, rfl⟩

abbrev nD : Nat := 1
abbrev τ : Topo := Topo.v7x

variable {F : FTy → Type} [FloatOps F]
-- ==== Proof.TopTwo.lean ====
/- The two greatest of eight extended reals, ties to the lower position: their positions as a stable sort by descending
   value leaves them, and the same two positions as the least places attaining a maximum. -/
module

public import Idealize.ShloMosaic.Lib.Pointwise
public import Idealize.ShloMosaic.Lib.PlanTiles.StableSort

@[expose] public section

noncomputable section

open Idealize.ShloMosaic

namespace Cert.TopTwo

/-- The stable order of the positions of `L` by descending value. -/
def order (L : Fin 8 → EReal) : List (Fin 8) := sortPositions 8 fun a b => decide (L b < L a)

/-- The position that the stable order by descending value puts at place `k`. -/
def pos (L : Fin 8 → EReal) (k : Fin 8) : Fin 8 := sortedFrom (fun a b => decide (L b < L a)) k

/-- The position of the greatest value. -/
abbrev fst (L : Fin 8 → EReal) : Fin 8 := pos L 0

/-- The position of the greatest value among the others. -/
abbrev snd (L : Fin 8 → EReal) : Fin 8 := pos L 1

/-- How many positions hold a smaller value. -/
def rank (L : Fin 8 → EReal) (a : Fin 8) : ℕ := (Finset.univ.filter fun k => L k < L a).card

/-- Counting the smaller values orders the positions as the values do. -/
theorem rank_lt (L : Fin 8 → EReal) (a b : Fin 8) : rank L a < rank L b ↔ L a < L b := by
  have mono : ∀ x y, L x ≤ L y → rank L x ≤ rank L y := fun x y h =>
    Finset.card_le_card fun k hk => by
      simp only [Finset.mem_filter, Finset.mem_univ, true_and] at hk ⊢
      exact lt_of_lt_of_le hk h
  constructor
  · intro h
    by_contra hc
    exact absurd (mono b a (not_lt.mp hc)) (not_le.mpr h)
  · intro h
    refine Finset.card_lt_card ⟨fun k hk => ?_, fun hs => ?_⟩
    · simp only [Finset.mem_filter, Finset.mem_univ, true_and] at hk ⊢
      exact lt_trans hk h
    · have : a ∈ Finset.univ.filter fun k => L k < L a :=
        hs (by simp only [Finset.mem_filter, Finset.mem_univ, true_and]; exact h)
      simp at this

/-- One position precedes another: its value is greater, or equal at a lower position. -/
def Before (L : Fin 8 → EReal) (a b : Fin 8) : Prop := L b < L a ∨ (L a = L b ∧ a < b)

/-- Every entry of the stable order precedes the later ones. -/
theorem order_pairwise (L : Fin 8 → EReal) : (order L).Pairwise (Before L) := by
  have h := PlanTiles.pairwise_stableSort_lex (rank L) (· < ·) (List.finRange 8) (List.pairwise_lt_finRange 8)
  have e : (fun x y : Fin 8 => decide (rank L y < rank L x)) = fun a b => decide (L b < L a) := by
    funext a b
    exact decide_eq_decide.mpr (rank_lt L b a)
  rw [e] at h
  refine h.imp fun {a b} hab => ?_
  rcases hab with h1 | ⟨h1, h2⟩
  · exact Or.inl ((rank_lt L b a).mp h1)
  · refine Or.inr ⟨?_, h2⟩
    refine le_antisymm (not_lt.mp fun hc => ?_) (not_lt.mp fun hc => ?_)
    · exact absurd ((rank_lt L b a).mpr hc) (by omega)
    · exact absurd ((rank_lt L a b).mpr hc) (by omega)

/-- The stable order lists every position. -/
theorem order_perm (L : Fin 8 → EReal) : (order L).Perm (List.finRange 8) := perm_sortPositions 8 _

/-- An earlier place precedes a later one. -/
theorem pos_before (L : Fin 8 → EReal) {i j : Fin 8} (h : i < j) : Before L (pos L i) (pos L j) :=
  List.pairwise_iff_get.mp (order_pairwise L) _ _ h

/-- Every position stands at some place. -/
theorem exists_pos (L : Fin 8 → EReal) (k : Fin 8) : ∃ i, pos L i = k := by
  have hk : k ∈ order L := (order_perm L).mem_iff.mpr (List.mem_finRange k)
  obtain ⟨n, hn⟩ := List.mem_iff_get.mp hk
  exact ⟨n.cast (length_sortPositions 8 _), hn⟩

/-- A position never precedes itself. -/
theorem before_irrefl (L : Fin 8 → EReal) (a : Fin 8) : ¬ Before L a a := by
  rintro (h | ⟨_, h⟩) <;> exact lt_irrefl _ h

/-- The two positions differ. -/
theorem fst_ne_snd (L : Fin 8 → EReal) : fst L ≠ snd L := fun h => by
  have := pos_before L (i := 0) (j := 1) (by decide)
  rw [show pos L 1 = pos L 0 from h.symm] at this
  exact before_irrefl L _ this

/-- The first position precedes every other. -/
theorem fst_before (L : Fin 8 → EReal) (k : Fin 8) (hk : k ≠ fst L) : Before L (fst L) k := by
  obtain ⟨i, rfl⟩ := exists_pos L k
  refine pos_before L ?_
  rcases Fin.eq_zero_or_eq_succ i with h | ⟨j, h⟩
  · exact absurd (by rw [h]) hk
  · rw [h]; exact Fin.succ_pos j

/-- The second position precedes every other but the first. -/
theorem snd_before (L : Fin 8 → EReal) (k : Fin 8) (hk : k ≠ fst L) (hk' : k ≠ snd L) : Before L (snd L) k := by
  obtain ⟨i, rfl⟩ := exists_pos L k
  refine pos_before L ?_
  have h0 : i ≠ 0 := fun h => hk (by rw [h])
  have h1 : i ≠ 1 := fun h => hk' (by rw [h])
  rw [Fin.lt_def]
  have h0' : i.val ≠ 0 := fun h => h0 (Fin.ext h)
  have h1' : i.val ≠ 1 := fun h => h1 (Fin.ext h)
  show 1 < i.val
  omega

/-- The value at the first position is the greatest. -/
theorem le_fst (L : Fin 8 → EReal) (k : Fin 8) : L k ≤ L (fst L) := by
  by_cases h : k = fst L
  · rw [h]
  · rcases fst_before L k h with h1 | ⟨h1, _⟩
    · exact h1.le
    · exact h1.ge

/-- Below the first position every value is smaller. -/
theorem lt_fst (L : Fin 8 → EReal) (k : Fin 8) (hk : k < fst L) : L k ≠ L (fst L) := by
  rcases fst_before L k hk.ne with h1 | ⟨_, h1⟩
  · exact h1.ne
  · exact absurd h1 (not_lt.mpr hk.le)

/-- `L` with its greatest value struck out. -/
def struck (L : Fin 8 → EReal) (k : Fin 8) : EReal := if k = fst L then ⊥ else L k

/-- Striking out the greatest value leaves the second one standing. -/
theorem struck_snd (L : Fin 8 → EReal) : struck L (snd L) = L (snd L) := if_neg (fst_ne_snd L).symm

/-- The value at the second position is the greatest of those left. -/
theorem struck_le (L : Fin 8 → EReal) (k : Fin 8) : struck L k ≤ L (snd L) := by
  unfold struck
  split
  · exact bot_le
  · next h =>
    by_cases h' : k = snd L
    · rw [h']
    · rcases snd_before L k h h' with h1 | ⟨h1, _⟩
      · exact h1.le
      · exact h1.ge

/-- Below the second position every value left is smaller, if the second value is not `⊥`. -/
theorem struck_ne (L : Fin 8 → EReal) (hL : L (snd L) ≠ ⊥) (k : Fin 8) (hk : k < snd L) : struck L k ≠ L (snd L) := by
  unfold struck
  split
  · exact hL.symm
  · next h =>
    rcases snd_before L k h hk.ne with h1 | ⟨_, h1⟩
    · exact h1.ne
    · exact absurd h1 (not_lt.mpr hk.le)

/-- The maximum of eight values, from `⊥`, is the value that no other exceeds. -/
theorem fold_max_eq (f : Fin 8 → EReal) (p : Fin 8) (h : ∀ k, f k ≤ f p) : Finset.univ.fold max ⊥ f = f p := by
  refine le_antisymm ?_ ?_
  · exact Finset.fold_max_le _ |>.mpr ⟨bot_le, fun k _ => h k⟩
  · exact Finset.le_fold_max _ |>.mpr (Or.inr ⟨p, Finset.mem_univ _, le_rfl⟩)

/-- Of the position words of the marked places, every other place's word being 8, the least is that of the lowest marked
    place: all markings, decided. -/
theorem fold_min_table : ∀ a b c d e f g h : Bool, ∀ p : Fin 8, ![a, b, c, d, e, f, g, h] p = true →
    (∀ k, k < p → ![a, b, c, d, e, f, g, h] k = false) →
    Finset.univ.fold IntOp.minsi 2147483647#32 (fun k : Fin 8 => if ![a, b, c, d, e, f, g, h] k then BitVec.ofNat 32 k.val else 8#32)
      = BitVec.ofNat 32 p.val := by
  decide +kernel

/-- The least position word among the marked places is that of the lowest marked place. -/
theorem fold_min_eq (P : Fin 8 → Prop) [DecidablePred P] (p : Fin 8) (hp : P p) (h : ∀ k, k < p → ¬ P k) :
    Finset.univ.fold IntOp.minsi 2147483647#32 (fun k : Fin 8 => if P k then BitVec.ofNat 32 k.val else 8#32) = BitVec.ofNat 32 p.val := by
  have key : ∀ k : Fin 8, ![decide (P 0), decide (P 1), decide (P 2), decide (P 3), decide (P 4), decide (P 5), decide (P 6), decide (P 7)] k
      = decide (P k) := by
    intro k
    fin_cases k <;> rfl
  have t := fold_min_table (decide (P 0)) (decide (P 1)) (decide (P 2)) (decide (P 3)) (decide (P 4)) (decide (P 5)) (decide (P 6)) (decide (P 7)) p
    (by rw [key]; exact decide_eq_true hp) (fun k hk => by rw [key]; exact decide_eq_false (h k hk))
  simp only [key, decide_eq_true_eq] at t
  exact t

/-- Two positions below eight have the same 32-bit word only if they are the same. -/
theorem word_inj (a b : Fin 8) : BitVec.ofNat 32 a.val = BitVec.ofNat 32 b.val ↔ a = b := by
  revert a b
  decide +kernel

end Cert.TopTwo

end
-- ==== Proof.Spec.lean ====
/- The routed mixture as plain functions on extended reals: the gates of a row of logits, the hidden layer, the mixture of
   the experts, the column statistics and the balance loss; and the laws that the two programs' spellings of them need. -/
module

public import proofs.«01_k».proof.Proof.TopTwo
public import Idealize.ShloMosaic.Lib.Pointwise
public import Idealize.ShloMosaic.Lib.Pipeline.ValueKit

@[expose] public section

noncomputable section

open Idealize.ShloMosaic

namespace Cert.Moe

open Cert.TopTwo

/-! ## Constants -/

/-- The pattern of minus infinity. -/
theorem bits_neg_inf : Ideal.ofBits .f32 0xFF800000#32 = ⊥ := by simp [Ideal.ofBits, Ideal.ieee]

/-- The pattern of one half. -/
theorem bits_half : Ideal.ofBits .f32 0x3F000000#32 = ((1 / 2 : ℝ) : EReal) := by
  simp [Ideal.ofBits, Ideal.ieee, -EReal.coe_mul]; norm_num

/-- The pattern of one eighth. -/
theorem bits_eighth : Ideal.ofBits .f32 0x3E000000#32 = ((1 / 8 : ℝ) : EReal) := by
  simp [Ideal.ofBits, Ideal.ieee, -EReal.coe_mul]; norm_num

/-- The pattern of eight. -/
theorem bits_eight : Ideal.ofBits .f32 0x41000000#32 = ((8 : ℝ) : EReal) := by
  simp [Ideal.ofBits, Ideal.ieee, -EReal.coe_mul]; norm_num

/-- The pattern of two to the minus twenty. -/
theorem bits_m20 : Ideal.ofBits .f32 0x35800000#32 = ((1 / 1048576 : ℝ) : EReal) := by
  simp [Ideal.ofBits, Ideal.ieee, -EReal.coe_mul]; norm_num

/-- The pattern of two to the twenty-first. -/
theorem bits_21 : Ideal.ofBits .f32 0x4A000000#32 = ((2097152 : ℝ) : EReal) := by
  simp [Ideal.ofBits, Ideal.ieee, -EReal.coe_mul]; norm_num

/-! ## A nonnegative real factor distributes -/

/-- A nonnegative real on the left goes into a finite sum of any extended reals. -/
theorem mul_sum {ι : Type} (c : ℝ) (hc : 0 ≤ c) (s : Finset ι) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The same on the right. -/
theorem sum_mul {ι : Type} (c : ℝ) (hc : 0 ≤ c) (s : Finset ι) (f : ι → EReal) : (∑ k ∈ s, f k) * (c : EReal) = ∑ k ∈ s, f k * (c : EReal) := by
  rw [mul_comm, mul_sum c hc]
  exact Finset.sum_congr rfl fun k _ => mul_comm _ _

/-- The absolute value, as the larger of a number and its negative. -/
def mag (y : EReal) : EReal := max y (-y)

/-- A nonnegative real factor comes out of the absolute value. -/
theorem mag_mul (c : ℝ) (hc : 0 ≤ c) (y : EReal) : mag (y * (c : EReal)) = mag y * (c : EReal) := by
  unfold mag
  rw [← EReal.neg_mul]
  have mono : Monotone fun z : EReal => z * (c : EReal) := fun a b h => mul_le_mul_of_nonneg_right h (EReal.coe_nonneg.mpr hc)
  exact (mono.map_max (a := y) (b := -y)).symm

/-! ## The gates of one row -/

/-- The second weight before normalising: the exponential of the second greatest logit less the greatest. -/
def ratio (L : Fin 8 → EReal) : EReal := Ideal.exp (L (snd L) - L (fst L))

/-- The gate of expert `e`: the softmax of the two greatest logits, at their positions; zero elsewhere. -/
def gate (L : Fin 8 → EReal) (e : Fin 8) : EReal :=
  if e = fst L then Ideal.div 1 (1 + ratio L) else if e = snd L then Ideal.div (ratio L) (1 + ratio L) else 0

/-- Every logit of the row is a real number. -/
def IsReal (L : Fin 8 → EReal) : Prop := ∀ e, ∃ a : ℝ, L e = (a : EReal)

/-- Of real logits the second weight is a positive real. -/
theorem ratio_real (L : Fin 8 → EReal) (hL : IsReal L) : ∃ ρ : ℝ, 0 < ρ ∧ ratio L = (ρ : EReal) := by
  obtain ⟨a, ha⟩ := hL (snd L)
  obtain ⟨b, hb⟩ := hL (fst L)
  refine ⟨Real.exp (a - b), Real.exp_pos _, ?_⟩
  rw [ratio, ha, hb, ← EReal.coe_sub]
  rfl

/-- Of real logits every gate is a nonnegative real. -/
theorem gate_real (L : Fin 8 → EReal) (hL : IsReal L) (e : Fin 8) : ∃ g : ℝ, 0 ≤ g ∧ gate L e = (g : EReal) := by
  obtain ⟨ρ, hρ, h⟩ := ratio_real L hL
  have h1 : (1 : EReal) + ratio L = ((1 + ρ : ℝ) : EReal) := by rw [h, EReal.coe_add, EReal.coe_one]
  have h2 : (1 + ρ : ℝ) ≠ 0 := by positivity
  unfold gate
  split
  · refine ⟨1 / (1 + ρ), by positivity, ?_⟩
    rw [h1, Ideal.div_coe h2, one_mul]
  · split
    · refine ⟨ρ * (1 / (1 + ρ)), by positivity, ?_⟩
      rw [h1, Ideal.div_coe h2, h, ← EReal.coe_mul]
    · exact ⟨0, le_rfl, rfl⟩

/-- Selecting on the equality of two position words is selecting on the equality of the positions. -/
theorem select_word (a b : Fin 8) (u v : EReal) :
    Scalar.select (IntOp.cmpi .eq (BitVec.ofNat 32 a.val) (BitVec.ofNat 32 b.val)) u v = if a = b then u else v := by
  by_cases h : a = b
  · rw [if_pos h, h]
    simp [Scalar.select, IntOp.cmpi]
  · rw [if_neg h]
    have : ¬ BitVec.ofNat 32 a.val = BitVec.ofNat 32 b.val := fun e => h ((word_inj a b).mp e)
    have h' : (BitVec.ofNat 32 a.val == BitVec.ofNat 32 b.val) = false := beq_eq_false_iff_ne.mpr this
    simp [Scalar.select, IntOp.cmpi, h']

/-- The least position word attaining the greatest logit is that of the first position. -/
theorem first_word (L : Fin 8 → EReal) :
    Finset.univ.fold IntOp.minsi 2147483647#32 (fun k : Fin 8 => if L k = Finset.univ.fold max ⊥ L then BitVec.ofNat 32 k.val else 8#32)
      = BitVec.ofNat 32 (fst L).val := by
  rw [fold_max_eq L (fst L) (le_fst L)]
  exact fold_min_eq (fun k => L k = L (fst L)) (fst L) rfl (lt_fst L)

/-- With the greatest logit struck out, the least position word attaining the greatest of the rest is that of the second
    position. -/
theorem second_word (L : Fin 8 → EReal) (hL : L (snd L) ≠ ⊥) :
    Finset.univ.fold IntOp.minsi 2147483647#32
        (fun k : Fin 8 => if struck L k = Finset.univ.fold max ⊥ (struck L) then BitVec.ofNat 32 k.val else 8#32)
      = BitVec.ofNat 32 (snd L).val := by
  have h : ∀ k, struck L k ≤ struck L (snd L) := fun k => by rw [struck_snd]; exact struck_le L k
  rw [fold_max_eq (struck L) (snd L) h, struck_snd]
  exact fold_min_eq (fun k => struck L k = L (snd L)) (snd L) (struck_snd L) (struck_ne L hL)

/-- The greatest logit. -/
theorem fold_fst (L : Fin 8 → EReal) : Finset.univ.fold max ⊥ L = L (fst L) := fold_max_eq L (fst L) (le_fst L)

/-- The greatest logit but the first. -/
theorem fold_snd (L : Fin 8 → EReal) : Finset.univ.fold max ⊥ (struck L) = L (snd L) := by
  rw [fold_max_eq (struck L) (snd L) fun k => by rw [struck_snd]; exact struck_le L k, struck_snd]

/-- The sum of the two selections, one per position, is the gate: the positions differ. -/
theorem gate_of_selects (L : Fin 8 → EReal) (e : Fin 8) :
    (if e = fst L then Ideal.div 1 (1 + ratio L) else 0) + (if e = snd L then Ideal.div (ratio L) (1 + ratio L) else 0) = gate L e := by
  unfold gate
  by_cases h : e = fst L
  · rw [if_pos h, if_pos h, if_neg (fun h' => fst_ne_snd L (h.symm.trans h')), add_zero]
  · rw [if_neg h, if_neg h, zero_add]

/-! ## The mixture -/

section Model

variable (X : Fin 2048 → Fin 1024 → EReal) (WG : Fin 1024 → Fin 8 → EReal) (W1 : Fin 8 → Fin 256 → Fin 1024 → EReal)
  (B1 : Fin 8 → Fin 256 → EReal) (W2 : Fin 8 → Fin 1024 → Fin 256 → EReal) (B2 : Fin 8 → Fin 1024 → EReal)

/-- The logits of row `r`. -/
def logits (r : Fin 2048) (e : Fin 8) : EReal := ∑ k, X r k * WG k e

/-- The gates of row `r`. -/
def gates (r : Fin 2048) (e : Fin 8) : EReal := gate (logits X WG r) e

/-- The hidden layer of expert `e` at row `r`. -/
def hidden (r : Fin 2048) (e : Fin 8) (h : Fin 256) : EReal := max (∑ k, X r k * W1 e h k + B1 e h) 0

/-- The output of expert `e` at row `r`, column `c`. -/
def expert (r : Fin 2048) (e : Fin 8) (c : Fin 1024) : EReal := ∑ h, W2 e c h * hidden X W1 B1 r e h + B2 e c

/-- The gated mixture of the experts at row `r`, column `c`. -/
def mix (r : Fin 2048) (c : Fin 1024) : EReal := ∑ e, gates X WG r e * expert X W1 B1 W2 B2 r e c

/-- The importance of expert `e`: its gates over all rows. -/
def importance (e : Fin 8) : EReal := ∑ r, gates X WG r e

/-- The load of expert `e`: the number of rows in which its gate is positive. -/
def load (e : Fin 8) : EReal := ∑ r, if 0 < gates X WG r e then (1 : EReal) else 0

/-- The squared coefficient of variation of eight values: the variance with divisor seven over the squared mean plus a
    small constant. -/
def cv (v : Fin 8 → EReal) : EReal :=
  Ideal.div ((∑ e, (v e - (∑ e, v e) * ((1 / 8 : ℝ) : EReal)) * (v e - (∑ e, v e) * ((1 / 8 : ℝ) : EReal))) * ((1 / 7 : ℝ) : EReal))
    ((∑ e, v e) * ((1 / 8 : ℝ) : EReal) * ((∑ e, v e) * ((1 / 8 : ℝ) : EReal)) + Ideal.ofBits .f32 0x2EDBE6FF#32)

/-- The balance loss: the variations of importance and load, and the mean magnitude of the mixture. -/
def loss : EReal :=
  cv (importance X WG) + cv (load X WG) + (∑ r, ∑ c, mag (mix X WG W1 B1 W2 B2 r c)) * ((1 / 2097152 : ℝ) : EReal)

end Model

/-! ## The kernel's spelling of the mixture -/

/-- Halved biases gated and summed, plus gated hidden values against halved weights summed, is half the gated sum of the
    experts, for nonnegative real gates and any extended reals besides. -/
theorem halved_mix (g : Fin 8 → EReal) (hg : ∀ e, ∃ a : ℝ, 0 ≤ a ∧ g e = (a : EReal)) (h w : Fin 8 → Fin 256 → EReal) (b : Fin 8 → EReal) :
    (∑ e, g e * (b e * ((1 / 2 : ℝ) : EReal))) + (∑ e, ∑ k, h e k * g e * (w e k * ((1 / 2 : ℝ) : EReal)))
      = (∑ e, g e * (∑ k, w e k * h e k + b e)) * ((1 / 2 : ℝ) : EReal) := by
  rw [sum_mul _ (by norm_num), ← Finset.sum_add_distrib]
  refine Finset.sum_congr rfl fun e _ => ?_
  obtain ⟨a, ha, he⟩ := hg e
  rw [he, EReal.left_distrib_of_nonneg_of_ne_top (EReal.coe_nonneg.mpr ha) (EReal.coe_ne_top a), mul_comm (_ + _) ((1 / 2 : ℝ) : EReal),
    EReal.left_distrib_of_nonneg_of_ne_top (EReal.coe_nonneg.mpr (by norm_num)) (EReal.coe_ne_top _), mul_sum a ha, mul_sum _ (by norm_num), add_comm]
  refine congrArg₂ (· + ·) (Finset.sum_congr rfl fun k _ => ?_) ?_
  · ac_rfl
  · ac_rfl

/-- The sum over 2048 hidden columns, 256 to an expert, is the double sum. -/
theorem sum_columns (f : Fin 8 → Fin 256 → EReal) :
    (∑ k : Fin 2048, f ⟨k.val / 256, by omega⟩ ⟨k.val % 256, Nat.mod_lt _ (by norm_num)⟩) = ∑ e, ∑ h, f e h :=
  Fin.sum_divmod_fin 256 f

/-- The sum over 2048 rows is that over the two halves. -/
theorem sum_rows (f : Fin 2048 → EReal) :
    (∑ r : Fin 1024, f ⟨r.val, by omega⟩) + (∑ r : Fin 1024, f ⟨1024 + r.val, by omega⟩) = ∑ r, f r :=
  (Fin.sum_univ_two_halves 1024 1024 rfl f).symm

/-- Halved magnitudes summed by columns and scaled by two to the minus twenty are the magnitudes summed by rows and scaled by
    two to the minus twenty-one. -/
theorem halved_total (f : Fin 2048 → Fin 1024 → EReal) :
    (∑ c, ∑ r, f r c * ((1 / 2 : ℝ) : EReal)) * ((1 / 1048576 : ℝ) : EReal) = (∑ r, ∑ c, f r c) * ((1 / 2097152 : ℝ) : EReal) := by
  rw [Finset.sum_comm]
  simp only [← sum_mul (1 / 2) (by norm_num)]
  rw [mul_assoc, ← EReal.coe_mul]
  norm_num

end Cert.Moe

end
-- ==== Proof.Model.lean ====
/- The two results as arrays over the six argument arrays. -/
module

public import proofs.«01_k».proof.Proof.Spec

@[expose] public section

noncomputable section

open Idealize.ShloMosaic

namespace Cert.Moe

variable (x : FVec Ideal ⟨3, ![1, 2048, 1024]⟩ .f32) (wg : FVec Ideal ⟨2, ![1024, 8]⟩ .f32) (w1 : FVec Ideal ⟨3, ![8, 256, 1024]⟩ .f32)
  (b1 : FVec Ideal ⟨2, ![8, 256]⟩ .f32) (w2 : FVec Ideal ⟨3, ![8, 1024, 256]⟩ .f32) (b2 : FVec Ideal ⟨2, ![8, 1024]⟩ .f32)

/-- The tokens as a matrix. -/
def tokens (r : Fin 2048) (k : Fin 1024) : EReal := x (ix3 0 r k)

/-- The gating weights as a matrix. -/
def gateW (k : Fin 1024) (e : Fin 8) : EReal := wg (ix2 k e)

/-- The first layer's weights by expert. -/
def firstW (e : Fin 8) (h : Fin 256) (k : Fin 1024) : EReal := w1 (ix3 e h k)

/-- The first layer's biases by expert. -/
def firstB (e : Fin 8) (h : Fin 256) : EReal := b1 (ix2 e h)

/-- The second layer's weights by expert. -/
def secondW (e : Fin 8) (c : Fin 1024) (h : Fin 256) : EReal := w2 (ix3 e c h)

/-- The second layer's biases by expert. -/
def secondB (e : Fin 8) (c : Fin 1024) : EReal := b2 (ix2 e c)

/-- The mixture of the argument arrays at row `r`, column `c`. -/
def mixOf (r : Fin 2048) (c : Fin 1024) : EReal :=
  mix (tokens x) (gateW wg) (firstW w1) (firstB b1) (secondW w2) (secondB b2) r c

/-- The loss of the argument arrays. -/
def lossOf : EReal := loss (tokens x) (gateW wg) (firstW w1) (firstB b1) (secondW w2) (secondB b2)

/-- The first result: half the mixture, as an array. -/
def resultY : FVec Ideal ⟨3, ![1, 2048, 1024]⟩ .f32 := fun i => mixOf x wg w1 b1 w2 b2 (i 1) (i 2) * ((1 / 2 : ℝ) : EReal)

/-- The second result: the loss, as an array of one number. -/
def resultLoss : FVec Ideal ⟨0, ![]⟩ .f32 := fun _ => lossOf x wg w1 b1 w2 b2

/-- Every row of logits is real. -/
def RealLogits : Prop := ∀ r, IsReal (logits (tokens x) (gateW wg) r)

end Cert.Moe

end
-- ==== Proof.Payloads.lean ====
/- The kernel's payloads, read at one entry. -/
module

public import proofs.«01_k».proof.Proof.Spec
public import proofs.«01_k».proof.Proof.Gen.KernelIdeal.Skeleton
public import Idealize.ShloMosaic.Lib.Pointwise
public import Idealize.ShloMosaic.Lib.IndicatorCount

@[expose] public section

set_option maxRecDepth 16384

noncomputable section

open Idealize.ShloMosaic Idealize.ShloMosaic.TcCoe Idealize.SL.Sem

namespace Cert.KernelIdeal.Pay

open Cert.KernelIdeal Cert.KernelIdeal.Gen
open Cert.TopTwo

set_option maxHeartbeats 1600000 in
/-- The gate block: of real logits, the gates of the row. -/
theorem gates_at (x : FVec Ideal S1024x1024 .f32) (w : FVec Ideal S1024x8 .f32) (r : Fin 1024) (e : Fin 8)
    (hL : Moe.IsReal fun e => ∑ k, x (ix2 r k) * w (ix2 k e)) :
    k0_pay5 (F := Ideal) x w (ix2 r e) = Moe.gate (fun e => ∑ k, x (ix2 r k) * w (ix2 k e)) e := by
  pointwise [k0_pay5, k0_pay4]
  generalize hdef : (fun e => ∑ k, x (ix2 r k) * w (ix2 k e)) = L at hL ⊢
  have hL2 : L (snd L) ≠ ⊥ := by
    obtain ⟨a, ha⟩ := hL (snd L)
    rw [ha]
    exact EReal.coe_ne_bot a
  have at_ : ∀ e, ∑ k, x (ix2 r k) * w (ix2 k e) = L e := fun e => congrFun hdef e
  have struck_ : ∀ k, (if k = fst L then ⊥ else L k) = struck L k := fun _ => rfl
  have ratio_ : Ideal.exp (L (snd L) - L (fst L)) = Moe.ratio L := rfl
  simp only [at_, Moe.bits_neg_inf, Moe.first_word L, Moe.select_word, struck_]
  simp only [Moe.second_word L hL2]
  simp only [Moe.fold_snd, Moe.fold_fst L, Moe.select_word, ratio_, Moe.gate_of_selects]

set_option maxHeartbeats 1600000 in
/-- The result block: the biases gated, plus the gated hidden values against the second weights. -/
theorem y_at (g : FVec Ideal S1024x8 .f32) (h : FVec Ideal S1024x2048 .f32) (b2 : FVec Ideal S8x1024 .f32) (w2 : FVec Ideal S2048x1024 .bf16)
    (r : Fin 1024) (c : Fin 1024) :
    k0_pay16 (F := Ideal) g h (k0_pay14 b2) (k0_pay15 g) w2 (ix2 r c)
      = (∑ e, g (ix2 r e) * (b2 (ix2 e c) * ((1 / 2 : ℝ) : EReal)))
        + ∑ k : Fin 2048, h (ix2 r k) * g (ix2 r ⟨k.val / 256, by omega⟩) * w2 (ix2 k c) := by
  pointwise [k0_pay16, k0_pay14, k0_pay15]
  refine congrArg₂ (· + ·) ?_ (Finset.sum_congr rfl fun k _ => congrArg (· * _) ?_)
  · rw [Moe.bits_half]
  · have step : ∀ (k' : Fin 2048) (e' : Fin 8), k'.val = k.val → e'.val = k.val / 256 →
        h (ix2 r k') * g (ix2 r e') = h (ix2 r k) * g (ix2 r ⟨k.val / 256, by omega⟩) := by
      intro k' e' hk he
      rw [Fin.ext hk, show e' = ⟨k.val / 256, by omega⟩ from Fin.ext he]
    split_ifs <;> first | exact step _ _ (by omega) (by omega) | exact step _ _ (by simp; omega) (by simp; omega) | (exfalso; omega)

/-- The halved second weights, laid out with one row per hidden column. -/
theorem w2_at (w2 : FVec Ideal S8x1024x256 .f32) (k : Fin 2048) (c : Fin 1024) :
    k0_pay10 (F := Ideal) w2 (ix2 k c)
      = w2 (ix3 ⟨k.val / 256, by omega⟩ c ⟨k.val % 256, Nat.mod_lt _ (by norm_num)⟩) * ((1 / 2 : ℝ) : EReal) := by
  pointwise [k0_pay10]
  rw [Moe.bits_half]

/-- The hidden block. -/
theorem hidden_at (x : FVec Ideal S1024x1024 .f32) (w1 : FVec Ideal S2048x1024 .f32) (b1 : FVec Ideal S1x2048 .f32) (r : Fin 1024) (k : Fin 2048) :
    k0_pay13 (F := Ideal) (k0_pay4 x) (k0_pay9 (F := Ideal) w1) b1 (ix2 r k)
      = max (∑ j, x (ix2 r j) * w1 (ix2 k j) + b1 (ix2 0 k)) 0 := by
  pointwise [k0_pay13, k0_pay4, k0_pay9]

/-- The importance row: the running sums plus the tile's gates. -/
theorem importance_at (g : FVec Ideal S1024x8 .f32) (v : FVec Ideal S1x8 .f32) (e : Fin 8) :
    k0_pay11 (F := Ideal) g v (ix2 0 e) = v (ix2 0 e) + ∑ r, g (ix2 r e) := by
  pointwise [k0_pay11]

/-- The number that a comparison's bit, widened, stands for. -/
theorem count_word (y : EReal) :
    FloatOps.sitofp (F := Ideal) FTy.f32 (BitVec.setWidth 32 (BitVec.ofBool (decide (0 < y)))) = if 0 < y then (1 : EReal) else 0 := by
  by_cases h : 0 < y
  · rw [if_pos h, decide_eq_true h]
    show ((((1#32 : BitVec 32).toInt : ℤ) : ℝ) : EReal) = 1
    norm_num
  · rw [if_neg h, decide_eq_false h]
    show ((((0#32 : BitVec 32).toInt : ℤ) : ℝ) : EReal) = 0
    norm_num

/-- The load row: the running sums plus the number of the tile's positive gates. -/
theorem load_at (g : FVec Ideal S1024x8 .f32) (v : FVec Ideal S1x8 .f32) (e : Fin 8) :
    k0_pay12 (F := Ideal) g v (ix2 0 e) = v (ix2 0 e) + ∑ r, if 0 < g (ix2 r e) then (1 : EReal) else 0 := by
  pointwise [k0_pay12]
  refine congrArg (_ + ·) (Finset.sum_congr rfl fun r _ => ?_)
  rw [count_word]

/-- The magnitude row: the running sums plus the tile's result magnitudes. -/
theorem mag_at (g : FVec Ideal S1024x8 .f32) (h : FVec Ideal S1024x2048 .f32) (b2 : FVec Ideal S8x1024 .bf16) (g' : FVec Ideal S1024x8 .bf16)
    (w2 : FVec Ideal S2048x1024 .bf16) (v : FVec Ideal S1x1024 .f32) (c : Fin 1024) :
    k0_pay1 (k0_pay17 (F := Ideal) g h b2 g' w2 v) (ix2 0 c) = v (ix2 0 c) + ∑ r, Moe.mag (k0_pay16 g h b2 g' w2 (ix2 r c)) := by
  pointwise [k0_pay17, k0_pay1]
  rfl

/-- The constant one seventh the kernel multiplies by. -/
theorem seventh : Named.named (F := Ideal) Cert.KernelIdeal.κ "inv_em1" (φ := .f32) 0x3E124925#32 = ((1 / 7 : ℝ) : EReal) :=
  IdealRules.named_const.ideal_named_scalar _ _ _ _ rfl

set_option maxHeartbeats 1600000 in
/-- The loss cell: the two variations plus the scaled total of the magnitudes. -/
theorem loss_at (v w : FVec Ideal S1x8 .f32) (a : FVec Ideal S1x1024 .f32) :
    k0_pay2 (k0_pay3 (F := Ideal) v w a) (ix2 0 0)
      = Moe.cv (fun e => v (ix2 0 e)) + Moe.cv (fun e => w (ix2 0 e)) + (∑ c, a (ix2 0 c)) * ((1 / 1048576 : ℝ) : EReal) := by
  pointwise [k0_pay2, k0_pay3]
  simp only [Finset.univ_unique, Finset.sum_singleton, Moe.bits_eighth, Moe.bits_m20, Moe.cv, seventh]

/-- The three accumulators start at zero. -/
theorem zero6_at (e : Fin 8) : k0_pay6 (F := Ideal) (ix2 0 e) = 0 := by
  pointwise [k0_pay6]
/-- The three accumulators start at zero. -/
theorem zero7_at (e : Fin 8) : k0_pay7 (F := Ideal) (ix2 0 e) = 0 := by
  pointwise [k0_pay7]
/-- The three accumulators start at zero. -/
theorem zero8_at (c : Fin 1024) : k0_pay8 (F := Ideal) (ix2 0 c) = 0 := by
  pointwise [k0_pay8]

end Cert.KernelIdeal.Pay

end
-- ==== Proof.Final.lean ====
/- What the idealized kernel's two output arrays hold after the run, over its argument arrays. -/
module

public import proofs.«01_k».proof.Proof.Model
public import proofs.«01_k».proof.Proof.Payloads
public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable (m : (ℓ : Loc nD τ sig) → Buf (Elt Ideal) ℓ)

/-! ## The argument arrays and the blocks -/

/-- The tokens' array. -/
abbrev ax (c : Dev nD) : FVec Ideal S1x2048x1024 .f32 := m ((c : Thread nD τ).loc main_arg0)
/-- The gating weights' array. -/
abbrev ag (c : Dev nD) : FVec Ideal S1024x8 .f32 := m ((c : Thread nD τ).loc main_arg1)
/-- The first layer's weights' array. -/
abbrev aw1 (c : Dev nD) : FVec Ideal S8x256x1024 .f32 := m ((c : Thread nD τ).loc main_arg2)
/-- The first layer's biases' array. -/
abbrev ab1 (c : Dev nD) : FVec Ideal S8x256 .f32 := m ((c : Thread nD τ).loc main_arg3)
/-- The second layer's weights' array. -/
abbrev aw2 (c : Dev nD) : FVec Ideal S8x1024x256 .f32 := m ((c : Thread nD τ).loc main_arg4)
/-- The second layer's biases' array. -/
abbrev ab2 (c : Dev nD) : FVec Ideal S8x1024 .f32 := m ((c : Thread nD τ).loc main_arg5)

/-- Every window's block index at every point. -/
theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0] ∧ win0_6.index t = ![t.val, 0] ∧ win0_7.index t = ![0, 0] :=
  (by decide +kernel : ∀ t : Fin grid0.N, _)

/-- The region finds the tokens reshaped to a matrix. -/
theorem V_main_v0 (c : Dev nD) : V m c main_v0 = shapeCast S2048x1024 (ax m c) shapeCasts_S1x2048x1024_S2048x1024 := by
  unfold V V0 hostOps0
  simp only [List.flatten_cons, List.flatten_nil, List.append_nil]
  after_results
  try rfl

/-- The region finds the first layer's weights reshaped to a matrix. -/
theorem V_main_v1 (c : Dev nD) : V m c main_v1 = shapeCast S2048x1024 (aw1 m c) shapeCasts_S8x256x1024_S2048x1024 := by
  unfold V V0 hostOps0
  simp only [List.flatten_cons, List.flatten_nil, List.append_nil]
  after_results
  try rfl

/-- The region finds the first layer's biases reshaped to a row. -/
theorem V_main_v2 (c : Dev nD) : V m c main_v2 = shapeCast S1x2048 (ab1 m c) shapeCasts_S8x256_S1x2048 := by
  unfold V V0 hostOps0
  simp only [List.flatten_cons, List.flatten_nil, List.append_nil]
  after_results
  try rfl

/-- The row of the tokens that row `a` of point `t`'s tile is. -/
def row (t : Fin 2) (a : Fin 1024) : Fin 2048 := ⟨t.val * 1024 + a.val, by omega⟩

/-- The tokens' tile at point `t`. -/
theorem iblk0_at (c : Dev nD) (t : Fin 2) (a k : Fin 1024) :
    (show FVec Ideal S1024x1024 .f32 from iblk m c 0 t) (ix2 a k) = Moe.tokens (ax m c) (row t a) k := by
  have h : (show FVec Ideal S1024x1024 .f32 from iblk m c 0 t) (ix2 a k) = V m c main_v0 (ix2 (row t a) k) := by
    blk_ext! [iblk, idx t, row]
  have e : ∀ r : Fin 2048, shapeCast S2048x1024 (ax m c) shapeCasts_S1x2048x1024_S2048x1024 (ix2 r k) = (ax m c) (ix3 0 r k) := fun r => by
    pointwise
  rw [h, V_main_v0]
  exact e _

/-- The gating weights' block is their array. -/
theorem iblk1 (c : Dev nD) (t : Fin cfg0.N) : iblk m c 1 t = ag m c := by blk_ext! [iblk, V, idx t]

/-- The first weights' block is the reshaped array. -/
theorem iblk2 (c : Dev nD) (t : Fin cfg0.N) :
    iblk m c 2 t = shapeCast S2048x1024 (aw1 m c) shapeCasts_S8x256x1024_S2048x1024 := by
  rw [← V_main_v1]
  blk_ext! [iblk, idx t]

/-- The first biases' block is the reshaped array. -/
theorem iblk3 (c : Dev nD) (t : Fin cfg0.N) : iblk m c 3 t = shapeCast S1x2048 (ab1 m c) shapeCasts_S8x256_S1x2048 := by
  rw [← V_main_v2]
  blk_ext! [iblk, idx t]

/-- The second weights' block is their array. -/
theorem iblk4 (c : Dev nD) (t : Fin cfg0.N) : iblk m c 4 t = aw2 m c := by blk_ext! [iblk, V, idx t]

/-- The second biases' block is their array. -/
theorem iblk5 (c : Dev nD) (t : Fin cfg0.N) : iblk m c 5 t = ab2 m c := by blk_ext! [iblk, V, idx t]

/-- The reshaped first weights, row `k`: expert `k / 256`, hidden column `k % 256`. -/
theorem w1_at (w : FVec Ideal S8x256x1024 .f32) (k : Fin 2048) (j : Fin 1024) :
    shapeCast S2048x1024 w shapeCasts_S8x256x1024_S2048x1024 (ix2 k j) = w (ix3 ⟨k.val / 256, by omega⟩ ⟨k.val % 256, by omega⟩ j) := by
  pointwise

/-- The reshaped first biases, column `k`: expert `k / 256`, hidden column `k % 256`. -/
theorem b1_at (b : FVec Ideal S8x256 .f32) (k : Fin 2048) :
    shapeCast S1x2048 b shapeCasts_S8x256_S1x2048 (ix2 0 k) = b (ix2 ⟨k.val / 256, by omega⟩ ⟨k.val % 256, by omega⟩) := by
  pointwise

/-! ## One tile -/

/-- The gates a point computes. -/
def tileG (c : Dev nD) (t : Fin 2) : FVec Ideal S1024x8 .f32 := k0_pay5 (F := Ideal) (iblk m c 0 t) (ag m c)

/-- The hidden layer a point computes. -/
def tileH (c : Dev nD) (t : Fin 2) : FVec Ideal S1024x2048 .f32 :=
  k0_pay13 (F := Ideal) (k0_pay4 (iblk m c 0 t)) (k0_pay9 (F := Ideal) (shapeCast S2048x1024 (aw1 m c) shapeCasts_S8x256x1024_S2048x1024))
    (shapeCast S1x2048 (ab1 m c) shapeCasts_S8x256_S1x2048)

/-- The result tile a point computes. -/
def tileY (c : Dev nD) (t : Fin 2) : FVec Ideal S1024x1024 .f32 :=
  k0_pay16 (F := Ideal) (tileG m c t) (tileH m c t) (k0_pay14 (F := Ideal) (ab2 m c)) (k0_pay15 (F := Ideal) (tileG m c t)) (k0_pay10 (F := Ideal) (aw2 m c))

/-- The hypothesis on the device's tokens and gating weights: every row of logits is real. -/
abbrev Real (c : Dev nD) : Prop := Moe.RealLogits (ax m c) (ag m c)

variable {m}

/-- The tile's gates are the gates of its rows. -/
theorem tileG_at {c : Dev nD} (hR : Real m c) (t : Fin 2) (a : Fin 1024) (e : Fin 8) :
    tileG m c t (ix2 a e) = Moe.gates (Moe.tokens (ax m c)) (Moe.gateW (ag m c)) (row t a) e := by
  have h : (fun e => ∑ k, (show FVec Ideal S1024x1024 .f32 from iblk m c 0 t) (ix2 a k) * (ag m c) (ix2 k e))
      = Moe.logits (Moe.tokens (ax m c)) (Moe.gateW (ag m c)) (row t a) := by
    funext e
    exact Finset.sum_congr rfl fun k _ => by rw [iblk0_at]; rfl
  refine (Pay.gates_at _ (ag m c) a e (by rw [h]; exact hR _)).trans ?_
  rw [h]
  rfl

/-- The tile's hidden layer is that of its rows. -/
theorem tileH_at (c : Dev nD) (t : Fin 2) (a : Fin 1024) (k : Fin 2048) :
    tileH m c t (ix2 a k) = Moe.hidden (Moe.tokens (ax m c)) (Moe.firstW (aw1 m c)) (Moe.firstB (ab1 m c)) (row t a)
      ⟨k.val / 256, by omega⟩ ⟨k.val % 256, by omega⟩ := by
  refine (Pay.hidden_at _ _ _ a k).trans ?_
  rw [b1_at]
  refine congrArg (fun z => max (z + _) 0) (Finset.sum_congr rfl fun j _ => ?_)
  rw [w1_at]
  exact congrArg (· * _) (iblk0_at m c t a j)

/-- The result tile is half the mixture at its rows. -/
theorem tileY_at {c : Dev nD} (hR : Real m c) (t : Fin 2) (a b : Fin 1024) :
    tileY m c t (ix2 a b) = Moe.mixOf (ax m c) (ag m c) (aw1 m c) (ab1 m c) (aw2 m c) (ab2 m c) (row t a) b * ((1 / 2 : ℝ) : EReal) := by
  refine (Pay.y_at _ _ _ _ a b).trans ?_
  simp only [tileG_at hR, tileH_at, Pay.w2_at]
  rw [Moe.sum_columns fun e h => Moe.hidden (Moe.tokens (ax m c)) (Moe.firstW (aw1 m c)) (Moe.firstB (ab1 m c)) (row t a) e h
    * Moe.gates (Moe.tokens (ax m c)) (Moe.gateW (ag m c)) (row t a) e * ((aw2 m c) (ix3 e b h) * ((1 / 2 : ℝ) : EReal))]
  exact Moe.halved_mix _ (fun e => Moe.gate_real _ (hR _) e) _ (fun e k => (aw2 m c) (ix3 e b k)) (fun e => (ab2 m c) (ix2 e b))

/-! ## What the points leave -/

variable (m)

/-- The first point leaves its result tile. -/
theorem outs_first (c : Dev nD) (t : Fin cfg0.N) (h0 : t.val % 2 = 0) (h1 : ¬t.val % 2 = 1) :
    (outsAt0 m c t.val t.isLt).1 = tileY m c t
      ∧ (outsAt0 m c t.val t.isLt).2.2.1 = k0_pay11 (F := Ideal) (tileG m c t) (k0_pay6 (F := Ideal))
      ∧ (outsAt0 m c t.val t.isLt).2.2.2.1 = k0_pay12 (F := Ideal) (tileG m c t) (k0_pay7 (F := Ideal))
      ∧ (outsAt0 m c t.val t.isLt).2.2.2.2.1 = k0_pay1 (F := Ideal) (k0_pay17 (F := Ideal) (tileG m c t) (tileH m c t) (k0_pay14 (F := Ideal) (ab2 m c))
          (k0_pay15 (F := Ideal) (tileG m c t)) (k0_pay10 (F := Ideal) (aw2 m c)) (k0_pay8 (F := Ideal)))
      ∧ (outsAt0 m c t.val t.isLt).2.2.2.2.2.1 = k0_pay9 (F := Ideal) (shapeCast S2048x1024 (aw1 m c) shapeCasts_S8x256x1024_S2048x1024)
      ∧ (outsAt0 m c t.val t.isLt).2.2.2.2.2.2 = k0_pay10 (F := Ideal) (aw2 m c) := by
  rw [outsAt0_A m c t h0 h1]
  unfold tileY tileH tileG
  simp only [← iblk1 m c t, ← iblk2 m c t, ← iblk3 m c t, ← iblk4 m c t, ← iblk5 m c t]
  refine ⟨?_, ?_, ?_, ?_, ?_, ?_⟩
  all_goals frame_out
  all_goals rfl

/-- The second point leaves its result tile, and the loss of the statistics over both points. -/
theorem outs_second (c : Dev nD) (t : Fin cfg0.N) (h0 : ¬t.val % 2 = 0) (h1 : t.val % 2 = 1) (s : Fin cfg0.N) (hs : s.val = t.val - 1) :
    (outsAt0 m c t.val t.isLt).1 = tileY m c t
      ∧ (outsAt0 m c t.val t.isLt).2.1 = k0_pay2 (F := Ideal) (k0_pay3 (k0_pay11 (tileG m c t) (k0_pay11 (tileG m c s) (k0_pay6 (F := Ideal))))
          (k0_pay12 (tileG m c t) (k0_pay12 (tileG m c s) (k0_pay7 (F := Ideal))))
          (k0_pay1 (F := Ideal) (k0_pay17 (F := Ideal) (tileG m c t) (tileH m c t) (k0_pay14 (F := Ideal) (ab2 m c))
            (k0_pay15 (F := Ideal) (tileG m c t)) (k0_pay10 (F := Ideal) (aw2 m c))
            (k0_pay1 (F := Ideal) (k0_pay17 (F := Ideal) (tileG m c s) (tileH m c s) (k0_pay14 (F := Ideal) (ab2 m c))
              (k0_pay15 (F := Ideal) (tileG m c s)) (k0_pay10 (F := Ideal) (aw2 m c)) (k0_pay8 (F := Ideal))))))) := by
  have hp := outs_first m c s (by omega) (by omega)
  obtain ⟨s, hlt⟩ := s
  obtain rfl : s = t.val - 1 := hs
  obtain ⟨-, p1, p2, p3, p4, p5⟩ := hp
  rw [outsAt0_B m c t h0 h1]
  refine ⟨?_, ?_⟩
  all_goals frame_out
  all_goals simp only [Memref.IsWhole.read_unread, read_unread_whole]
  · rw [p4, p5, iblk1, iblk3, iblk5]
    rfl
  · rw [p1, p2, p3, p4, p5, iblk1, iblk3, iblk5]
    rfl

/-! ## The output arrays -/

variable {m}

/-- The first output array: half the mixture. -/
theorem final_y {c : Dev nD} (hR : Real m c) : (dats m 0 c).arrAt 6 (cfgs 0).N
    = (fun j => Moe.mixOf (ax m c) (ag m c) (aw1 m c) (ab1 m c) (aw2 m c) (ab2 m c) (j 0) (j 1) * ((1 / 2 : ℝ) : EReal) : FVec Ideal S2048x1024 .f32) := by
  refine (dats m 0 c).arrAt_eq_of_covers 6 _ (by decide +kernel) fun t _ y => ?_
  blk_simp
  rw [after0_6]
  have hy : (outsAt0 m c t.val t.isLt).1 = tileY m c t := by
    have ht : t.val < 2 := t.isLt
    by_cases h : t.val % 2 = 0
    · exact (outs_first m c t h (by omega)).1
    · exact (outs_second m c t h (by omega) ⟨t.val - 1, (Nat.sub_le _ _).trans_lt t.isLt⟩ rfl).1
  have e0 : (win0_6.blk t).view.emb y 0 = row t (y 0) := Fin.ext (by blk_simp [idx t, row])
  have e1 : (win0_6.blk t).view.emb y 1 = y 1 := Fin.ext (by blk_simp [idx t])
  rw [hy, e0, e1]
  obtain ⟨a, b, rfl⟩ : ∃ (a : Fin 1024) (b : Fin 1024), y = ix2 a b := ⟨y 0, y 1, by idx_vars y⟩
  exact tileY_at hR t a b

/-- The importance row after both points is that of all rows. -/
theorem importance_total {c : Dev nD} (hR : Real m c) (e : Fin 8) :
    k0_pay11 (F := Ideal) (tileG m c 1) (k0_pay11 (tileG m c 0) (k0_pay6 (F := Ideal))) (ix2 0 e)
      = Moe.importance (Moe.tokens (ax m c)) (Moe.gateW (ag m c)) e := by
  rw [Pay.importance_at, Pay.importance_at, Pay.zero6_at, zero_add, Moe.importance, ← Moe.sum_rows]
  simp only [tileG_at hR]
  refine congrArg₂ (· + ·) (Finset.sum_congr rfl fun a _ => ?_) (Finset.sum_congr rfl fun a _ => ?_)
  all_goals exact congrArg (fun r => Moe.gates _ _ r e) (Fin.ext (by simp [row]))

/-- The load row after both points is that of all rows. -/
theorem load_total {c : Dev nD} (hR : Real m c) (e : Fin 8) :
    k0_pay12 (F := Ideal) (tileG m c 1) (k0_pay12 (tileG m c 0) (k0_pay7 (F := Ideal))) (ix2 0 e)
      = Moe.load (Moe.tokens (ax m c)) (Moe.gateW (ag m c)) e := by
  rw [Pay.load_at, Pay.load_at, Pay.zero7_at, zero_add, Moe.load, ← Moe.sum_rows]
  simp only [tileG_at hR]
  refine congrArg₂ (· + ·) (Finset.sum_congr rfl fun a _ => ?_) (Finset.sum_congr rfl fun a _ => ?_)
  all_goals exact congrArg (fun r => if 0 < Moe.gates _ _ r e then (1 : EReal) else 0) (Fin.ext (by simp [row]))

/-- The magnitude row after both points is that of all rows. -/
theorem mag_total {c : Dev nD} (hR : Real m c) (b : Fin 1024) :
    k0_pay1 (F := Ideal) (k0_pay17 (F := Ideal) (tileG m c 1) (tileH m c 1) (k0_pay14 (F := Ideal) (ab2 m c))
            (k0_pay15 (F := Ideal) (tileG m c 1)) (k0_pay10 (F := Ideal) (aw2 m c))
            (k0_pay1 (F := Ideal) (k0_pay17 (F := Ideal) (tileG m c 0) (tileH m c 0) (k0_pay14 (F := Ideal) (ab2 m c))
              (k0_pay15 (F := Ideal) (tileG m c 0)) (k0_pay10 (F := Ideal) (aw2 m c)) (k0_pay8 (F := Ideal))))) (ix2 0 b)
      = ∑ r, Moe.mag (Moe.mixOf (ax m c) (ag m c) (aw1 m c) (ab1 m c) (aw2 m c) (ab2 m c) r b) * ((1 / 2 : ℝ) : EReal) := by
  have at_ : ∀ (t : Fin 2) (a : Fin 1024), k0_pay16 (F := Ideal) (tileG m c t) (tileH m c t) (k0_pay14 (F := Ideal) (ab2 m c))
      (k0_pay15 (F := Ideal) (tileG m c t)) (k0_pay10 (F := Ideal) (aw2 m c)) (ix2 a b)
        = Moe.mixOf (ax m c) (ag m c) (aw1 m c) (ab1 m c) (aw2 m c) (ab2 m c) (row t a) b * ((1 / 2 : ℝ) : EReal) := fun t a => tileY_at hR t a b
  rw [Pay.mag_at, Pay.mag_at, Pay.zero8_at, zero_add, ← Moe.sum_rows]
  simp only [at_, Moe.mag_mul (1 / 2) (by norm_num)]
  refine congrArg₂ (· + ·) (Finset.sum_congr rfl fun a _ => ?_) (Finset.sum_congr rfl fun a _ => ?_)
  all_goals exact congrArg (fun r => Moe.mag (Moe.mixOf _ _ _ _ _ _ r b) * ((1 / 2 : ℝ) : EReal)) (Fin.ext (by simp [row]))

/-- The second output array: the loss. -/
theorem final_loss {c : Dev nD} (hR : Real m c) : (dats m 0 c).arrAt 7 (cfgs 0).N
    = (fun _ => Moe.lossOf (ax m c) (ag m c) (aw1 m c) (ab1 m c) (aw2 m c) (ab2 m c) : FVec Ideal S1x1 .f32) := by
  refine (dats m 0 c).arrAt_eq_of_after_last 7 t0_1 (by decide +kernel) _ fun j => ?_
  blk_simp
  rw [after0_7, (outs_second m c t0_1 (by decide) (by decide) t0_0 rfl).2]
  obtain rfl : j = ix2 0 0 := by
    idx_vars j
    rw [Subsingleton.elim j0 0, Subsingleton.elim j1 0]
  refine (Pay.loss_at _ _ _).trans ?_
  have hi := fun e => importance_total hR e
  have hl := fun e => load_total hR e
  have hm := fun b => mag_total hR b
  change Moe.cv (fun e => k0_pay11 (F := Ideal) (tileG m c 1) (k0_pay11 (tileG m c 0) (k0_pay6 (F := Ideal))) (ix2 0 e)) + Moe.cv (fun e => k0_pay12 (F := Ideal) (tileG m c 1) (k0_pay12 (tileG m c 0) (k0_pay7 (F := Ideal))) (ix2 0 e)) + (∑ b, k0_pay1 (F := Ideal) (k0_pay17 (F := Ideal) (tileG m c 1) (tileH m c 1) (k0_pay14 (F := Ideal) (ab2 m c))
            (k0_pay15 (F := Ideal) (tileG m c 1)) (k0_pay10 (F := Ideal) (aw2 m c))
            (k0_pay1 (F := Ideal) (k0_pay17 (F := Ideal) (tileG m c 0) (tileH m c 0) (k0_pay14 (F := Ideal) (ab2 m c))
              (k0_pay15 (F := Ideal) (tileG m c 0)) (k0_pay10 (F := Ideal) (aw2 m c)) (k0_pay8 (F := Ideal))))) (ix2 0 b)) * _ = _
  simp only [hi, hl, hm]
  rw [Moe.halved_total]
  rfl

/-! ## The results -/

/-- The first result buffer after the reshape that follows the region. -/
theorem tail_y (c : Dev nD) (A : FVec Ideal S2048x1024 .f32) (hA : (dats m 0 c).arrAt 6 (cfgs 0).N = A) :
    Pipeline.afterTail₀ cfgs (dats m) 0 (V0 m) [hostOps1] c main_v4 = shapeCast S1x2048x1024 A shapeCasts_S2048x1024_S1x2048x1024 := by
  have hw := Pipeline.withArrays_arr (cfgs 0).spec (by decide) c (V0 m c) (fun w => (dats m 0 c).arrAt w (cfgs 0).N) 6
  rw [hA] at hw
  unfold Pipeline.afterTail₀ hostOps1
  simp only [List.flatten_cons, List.flatten_nil, List.append_nil]
  after_results
  exact congrArg (fun B : FVec Ideal S2048x1024 .f32 => shapeCast S1x2048x1024 B shapeCasts_S2048x1024_S1x2048x1024) hw

/-- The second result buffer after the reshape that follows the region. -/
theorem tail_loss (c : Dev nD) (A : FVec Ideal S1x1 .f32) (hA : (dats m 0 c).arrAt 7 (cfgs 0).N = A) :
    Pipeline.afterTail₀ cfgs (dats m) 0 (V0 m) [hostOps1] c main_v5 = shapeCast S_ A shapeCasts_S1x1_S_ := by
  have hw := Pipeline.withArrays_arr (cfgs 0).spec (by decide) c (V0 m c) (fun w => (dats m 0 c).arrAt w (cfgs 0).N) 7
  rw [hA] at hw
  unfold Pipeline.afterTail₀ hostOps1
  simp only [List.flatten_cons, List.flatten_nil, List.append_nil]
  after_results
  exact congrArg (fun B : FVec Ideal S1x1 .f32 => shapeCast S_ B shapeCasts_S1x1_S_) hw

/-- A matrix with a leading unit axis put on, read at an entry. -/
theorem lead_at (A : FVec Ideal S2048x1024 .f32) (r : Fin 2048) (k : Fin 1024) :
    shapeCast S1x2048x1024 A shapeCasts_S2048x1024_S1x2048x1024 (ix3 0 r k) = A (ix2 r k) := by
  pointwise

/-- The first result buffer ends holding half the mixture. -/
theorem out_y {c : Dev nD} (hR : Real m c) :
    Pipeline.afterTail₀ cfgs (dats m) 0 (V0 m) [hostOps1] c main_v4
      = Moe.resultY (ax m c) (ag m c) (aw1 m c) (ab1 m c) (aw2 m c) (ab2 m c) := by
  refine (tail_y c _ (final_y hR)).trans ?_
  funext i
  obtain ⟨r, k, rfl⟩ : ∃ (r : Fin 2048) (k : Fin 1024), i = ix3 0 r k := ⟨i 1, i 2, by idx_vars i; rw [Subsingleton.elim i0 0]⟩
  exact lead_at _ r k

/-- The second result buffer ends holding the loss. -/
theorem out_loss {c : Dev nD} (hR : Real m c) :
    Pipeline.afterTail₀ cfgs (dats m) 0 (V0 m) [hostOps1] c main_v5
      = Moe.resultLoss (ax m c) (ag m c) (aw1 m c) (ab1 m c) (aw2 m c) (ab2 m c) :=
  (tail_loss c _ (final_loss hR)).trans rfl

end Cert.KernelIdeal.Final

end
-- ==== Proof.Reference.lean ====
/- The reference's composed terms, cut into named arrays. -/
module

public import proofs.«01_k».proof.Proof.Model
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen

/-- The logits. -/
def LOGITS (x : FVec Ideal S1x2048x1024 .f32) (wg : FVec Ideal S1024x8 .f32) : FVec Ideal S2048x8 .f32 :=
  Host.dotGeneral dot_S2048x1024_S1024x8_S2048x8_1_0_0_1_n_n none (shapeCast S2048x1024 x shapeCasts_S1x2048x1024_S2048x1024) wg

/-- The two greatest logits of each row. -/
def VAL (l : FVec Ideal S2048x8 .f32) : FVec Ideal S2048x2 .f32 :=
  extractStridedSlice S2048x2 ![0, 0] ((Host.topK S2048x3 1 (FloatOps.cmpfTotal .gt) l sliceFits_S2048x8_S2048x3).1) slices_S2048x3_S2048x2_0_0

/-- Their positions. -/
def IND (l : FVec Ideal S2048x8 .f32) : IVec S2048x2 32 :=
  extractStridedSlice S2048x2 ![0, 0] ((Host.topK S2048x3 1 (FloatOps.cmpfTotal .gt) l sliceFits_S2048x8_S2048x3).2) slices_S2048x3_S2048x2_0_0

/-- The exponentials of a pair's logits less the greater. -/
def EXPS (v : FVec Ideal S2048x2 .f32) : FVec Ideal S2048x2 .f32 :=
  Host.exp (subf v (broadcastInDim S2048x2 ![0, 1] bcast_S2048x1_S2048x2_0_1 (broadcastInDim S2048x1 ![0] bcast_S2048_S2048x1_0
    (maximumf (broadcastInDim S2048 ![] bcast_S_S2048 (constant S_ .f32 0xFF800000#32))
      (Host.reduce FloatOps.maximumf v (constant S_ .f32 0xFF800000#32) reducesTo_S2048x2_S2048_d1 h_S_)))))

/-- The softmax of each pair. -/
def SOFT (v : FVec Ideal S2048x2 .f32) : FVec Ideal S2048x2 .f32 :=
  Host.divf (EXPS v) (broadcastInDim S2048x2 ![0, 1] bcast_S2048x1_S2048x2_0_1 (broadcastInDim S2048x1 ![0] bcast_S2048_S2048x1_0
    (Host.reduceAdd (EXPS v) (constant S_ .f32 0x00000000#32) reducesTo_S2048x2_S2048_d1 h_S_)))

/-- The row numbers the scatter writes at. -/
def ROWS : IVec S2048x2x1 32 :=
  broadcastInDim S2048x2x1 ![0, 1] bcast_S2048x2_S2048x2x1_0_1 (broadcastInDim S2048x2 ![0, 1] bcast_S2048x1_S2048x2_0_1
    (select (cmpi .slt (broadcastInDim S2048x1 ![0] bcast_S2048_S2048x1_0 (iotaInDim S2048 32 0)) (broadcastInDim S2048x1 ![] bcast_S_S2048x1 (constantI S_ 32 0#32)))
      (addi (broadcastInDim S2048x1 ![0] bcast_S2048_S2048x1_0 (iotaInDim S2048 32 0)) (broadcastInDim S2048x1 ![] bcast_S_S2048x1 (constantI S_ 32 2048#32)))
      (broadcastInDim S2048x1 ![0] bcast_S2048_S2048x1_0 (iotaInDim S2048 32 0))))

/-- The column numbers the scatter writes at. -/
def COLS (i : IVec S2048x2 32) : IVec S2048x2x1 32 :=
  broadcastInDim S2048x2x1 ![0, 1] bcast_S2048x2_S2048x2x1_0_1 (select (cmpi .slt i (broadcastInDim S2048x2 ![] bcast_S_S2048x2 (constantI S_ 32 0#32)))
    (addi i (broadcastInDim S2048x2 ![] bcast_S_S2048x2 (constantI S_ 32 8#32))) i)

/-- The places the scatter writes at. -/
def PAIRS (i : IVec S2048x2 32) : IVec S2048x2x2 32 :=
  concatenate S2048x2x2 2 [⟨S2048x2x1, ROWS⟩, ⟨S2048x2x1, COLS i⟩] concatenates_S2048x2x1_S2048x2x1_S2048x2x2_d2

/-- The gates. -/
def GATES (l : FVec Ideal S2048x8 .f32) : FVec Ideal S2048x8 .f32 :=
  Host.scatter scatter_S2048x8_S2048x2x2_S2048x2_n_01_01_2 (fun _ b => b) (broadcastInDim S2048x8 ![] bcast_S_S2048x8 (constant S_ .f32 0x00000000#32))
    (PAIRS (IND l)) (SOFT (VAL l))

/-- The experts' outputs. -/
def EXPERT (x : FVec Ideal S1x2048x1024 .f32) (w1 : FVec Ideal S8x256x1024 .f32) (b1 : FVec Ideal S8x256 .f32) (w2 : FVec Ideal S8x1024x256 .f32)
    (b2 : FVec Ideal S8x1024 .f32) : FVec Ideal S2048x8x1024 .f32 :=
  addf (transpose S2048x8x1024 [2, 0, 1] (Host.dotGeneral dot_S8x1024x256_S2048x8x256_S8x1024x2048_2_2_1_0_0_1 none w2
      (maximumf (addf (Host.dotGeneral dot_S2048x1024_S8x256x1024_S2048x8x256_1_2_0_01_n_n none (shapeCast S2048x1024 x shapeCasts_S1x2048x1024_S2048x1024) w1)
          (broadcastInDim S2048x8x256 ![0, 1, 2] bcast_S1x8x256_S2048x8x256_0_1_2 (broadcastInDim S1x8x256 ![1, 2] bcast_S8x256_S1x8x256_1_2 b1)))
        (broadcastInDim S2048x8x256 ![] bcast_S_S2048x8x256 (constant S_ .f32 0x00000000#32)))) transposes_S8x1024x2048_S2048x8x1024_2_0_1)
    (broadcastInDim S2048x8x1024 ![0, 1, 2] bcast_S1x8x1024_S2048x8x1024_0_1_2 (broadcastInDim S1x8x1024 ![1, 2] bcast_S8x1024_S1x8x1024_1_2 b2))

/-- The mixture: the experts' outputs against the gates. -/
def MIX (g : FVec Ideal S2048x8 .f32) (e : FVec Ideal S2048x8x1024 .f32) : FVec Ideal S1x2048x1024 .f32 :=
  shapeCast S1x2048x1024 (Host.dotGeneral dot_S2048x8_S2048x8x1024_S2048x1024_1_1_n_2_0_0 none g e) shapeCasts_S2048x1024_S1x2048x1024

/-- The first result over the mixture. -/
def HALF (y : FVec Ideal S1x2048x1024 .f32) : FVec Ideal S1x2048x1024 .f32 :=
  mulf y (broadcastInDim S1x2048x1024 ![] bcast_S_S1x2048x1024 (constant S_ .f32 0x3F000000#32))

/-- The importance row. -/
def IMP (g : FVec Ideal S2048x8 .f32) : FVec Ideal S8 .f32 := Host.reduceAdd g (constant S_ .f32 0x00000000#32) reducesTo_S2048x8_S8_d0 h_S_

/-- The load row. -/
def LOAD (g : FVec Ideal S2048x8 .f32) : FVec Ideal S8 .f32 :=
  sitofp .f32 (Host.reduce IntOp.addi (extui 32 (cmpf .ogt g (broadcastInDim S2048x8 ![] bcast_S_S2048x8 (constant S_ .f32 0x00000000#32))) natLt_1_32)
    (constantI S_ 32 0#32) reducesTo_S2048x8_S8_d0 h_S_)

/-- The deviations from the mean. -/
def DEV (v : FVec Ideal S8 .f32) : FVec Ideal S8 .f32 :=
  subf v (broadcastInDim S8 ![0] bcast_S1_S8_0 (Host.divf (broadcastInDim S1 ![] bcast_S_S1 (Host.reduceAdd v (constant S_ .f32 0x00000000#32) reducesTo_S8_S_d0 h_S_))
    (broadcastInDim S1 ![] bcast_S_S1 (constant S_ .f32 0x41000000#32))))

/-- The mean. -/
def MEAN (v : FVec Ideal S8 .f32) : FVec Ideal S_ .f32 :=
  Host.divf (Host.reduceAdd v (constant S_ .f32 0x00000000#32) reducesTo_S8_S_d0 h_S_) (constant S_ .f32 0x41000000#32)

/-- Eight less one. -/
def SEVEN : FVec Ideal S_ .f32 := subf (constant S_ .f32 0x41000000#32) (sitofp .f32 (constantI S_ 32 1#32))

/-- The squared coefficient of variation. -/
def CV (v : FVec Ideal S8 .f32) : FVec Ideal S_ .f32 :=
  Host.divf (select (cmpf .ogt SEVEN (constant S_ .f32 0x00000000#32))
      (Host.divf (Host.reduceAdd (mulf (DEV v) (DEV v)) (constant S_ .f32 0x00000000#32) reducesTo_S8_S_d0 h_S_) SEVEN) (id (constant S_ .f32 0x7FC00000#32)))
    (addf (mulf (MEAN v) (MEAN v)) (constant S_ .f32 0x2EDBE6FF#32))

/-- The second result over the two variations and the mixture. -/
def TOTAL (a b : FVec Ideal S_ .f32) (y : FVec Ideal S1x2048x1024 .f32) : FVec Ideal S_ .f32 :=
  addf (mulf (addf a b) (constant S_ .f32 0x3F800000#32))
    (Host.divf (Host.reduceAdd (Host.absf y) (constant S_ .f32 0x00000000#32) reducesTo_S1x2048x1024_S_d0_1_2 h_S_) (constant S_ .f32 0x4A000000#32))

variable (m : (ℓ : Loc nD τ sig) → Buf (Elt Ideal) ℓ)

/-- The gates over the argument arrays. -/
abbrev gatesOf (c : Dev nD) : FVec Ideal S2048x8 .f32 := GATES (LOGITS (m ((c.tc : Thread nD τ).loc main_arg0)) (m ((c.tc : Thread nD τ).loc main_arg1)))

/-- The mixture over the argument arrays. -/
abbrev mixOf (c : Dev nD) : FVec Ideal S1x2048x1024 .f32 :=
  MIX (gatesOf m c) (EXPERT (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)))

set_option maxHeartbeats 2000000 in
/-- The first result is the halved mixture. -/
theorem out0_eq (c : Dev nD) : Value.res_out0 m c = HALF (mixOf m c) := rfl

set_option maxHeartbeats 2000000 in
/-- The second result is the total over the two variations and the mixture. -/
theorem out1_eq (c : Dev nD) : Value.res_out1 m c = TOTAL (CV (IMP (gatesOf m c))) (CV (LOAD (gatesOf m c))) (mixOf m c) := rfl

end Cert.ReferenceIdeal.Parts

end
-- ==== Proof.RefRead.lean ====
/- The reference's named arrays, read at one entry. -/
module

public import proofs.«01_k».proof.Proof.Reference
public import Idealize.ShloMosaic.Lib.Pointwise
public import Idealize.ShloMosaic.Lib.IndicatorCount
public import Idealize.ShloMosaic.Lib.ScatterToDense.RefScatter

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen
open Cert.TopTwo

/-- A logit. -/
theorem logits_at (x : FVec Ideal S1x2048x1024 .f32) (wg : FVec Ideal S1024x8 .f32) (r : Fin 2048) (e : Fin 8) :
    LOGITS x wg (ix2 r e) = Moe.logits (Moe.tokens x) (Moe.gateW wg) r e := by
  pointwise [LOGITS]
  rfl

/-- The comparison the sort runs by, as a strict order. -/
theorem gt_eq (a b : EReal) : (FloatOps.cmpfTotal (F := Ideal) (φ := .f32) .gt a b == 1#1) = decide (b < a) := by
  show (BitVec.ofBool (decide (b < a)) == 1#1) = decide (b < a)
  cases decide (b < a) <;> rfl

/-- An entry of a matrix with its column replaced. -/
theorem along_at (r : Fin 2048) (a b : Fin 8) : (ix2 r a : S2048x8.Idx).along 1 b = ix2 r b := by
  funext d
  match d with
  | ⟨0, _⟩ => rfl
  | ⟨1, _⟩ => rfl

/-- The two greatest logits. -/
theorem val_at (l : FVec Ideal S2048x8 .f32) (r : Fin 2048) (k : Fin 2) :
    VAL l (ix2 r k) = l (ix2 r (pos (fun e => l (ix2 r e)) ⟨k.val, by omega⟩)) := by
  unfold VAL Host.topK Host.sort2
  pointwise
  simp only [along_at, gt_eq]
  rfl

/-- Their positions' words. -/
theorem ind_at (l : FVec Ideal S2048x8 .f32) (r : Fin 2048) (k : Fin 2) :
    IND l (ix2 r k) = BitVec.ofNat 32 (pos (fun e => l (ix2 r e)) ⟨k.val, by omega⟩).val := by
  unfold IND Host.topK Host.sort2
  pointwise
  simp only [along_at, gt_eq]
  rfl

/-- The exponential of a pair's logit less the greater of the two. -/
theorem exps_at (v : FVec Ideal S2048x2 .f32) (r : Fin 2048) (k : Fin 2) :
    EXPS v (ix2 r k) = Ideal.exp (v (ix2 r k) - max (v (ix2 r 0)) (v (ix2 r 1))) := by
  pointwise [EXPS]
  rw [Moe.bits_neg_inf, show (Finset.univ : Finset (Fin 2)) = {0, 1} from rfl, Finset.fold_insert (by decide), Finset.fold_singleton]
  simp

/-- The softmax of a pair. -/
theorem soft_at (v : FVec Ideal S2048x2 .f32) (r : Fin 2048) (k : Fin 2) :
    SOFT v (ix2 r k) = Ideal.div (EXPS v (ix2 r k)) (EXPS v (ix2 r 0) + EXPS v (ix2 r 1)) := by
  pointwise [SOFT]
  rw [Fin.sum_univ_two]

/-- A selection on a small word's being negative takes the second choice. -/
theorem select_nonneg (n : ℕ) (hn : n < 2048) (u v : BitVec 32) :
    Scalar.select (IntOp.cmpi .slt (BitVec.ofNat 32 n) 0#32) u v = v := by
  have h : (BitVec.ofNat 32 n).slt 0#32 = false := by
    have e : (BitVec.ofNat 32 n).toInt = n := by
      rw [BitVec.toInt_eq_toNat_of_lt (by rw [BitVec.toNat_ofNat]; omega), BitVec.toNat_ofNat]
      omega
    simp [BitVec.slt, e]
  simp [Scalar.select, IntOp.cmpi, h]

/-- The row number written at. -/
theorem rows_at (r : Fin 2048) (k : Fin 2) : ROWS (ix3 r k 0) = BitVec.ofNat 32 r.val := by
  pointwise [ROWS]
  rw [select_nonneg _ r.isLt]

/-- The column number written at. -/
theorem cols_at (i : IVec S2048x2 32) (r : Fin 2048) (k : Fin 2) (n : ℕ) (hn : n < 2048) (hi : i (ix2 r k) = BitVec.ofNat 32 n) :
    COLS i (ix3 r k 0) = BitVec.ofNat 32 n := by
  pointwise [COLS]
  rw [hi, select_nonneg _ hn]

/-- A place's first coordinate is the row number. -/
theorem pairs0_at (i : IVec S2048x2 32) (r : Fin 2048) (k : Fin 2) : PAIRS i (ix3 r k 0) = ROWS (ix3 r k 0) := by
  pointwise [PAIRS]

/-- A place's second coordinate is the column number. -/
theorem pairs1_at (i : IVec S2048x2 32) (r : Fin 2048) (k : Fin 2) : PAIRS i (ix3 r k 1) = COLS i (ix3 r k 0) := by
  pointwise [PAIRS]

/-- An expert's output. -/
theorem expert_at (x : FVec Ideal S1x2048x1024 .f32) (w1 : FVec Ideal S8x256x1024 .f32) (b1 : FVec Ideal S8x256 .f32) (w2 : FVec Ideal S8x1024x256 .f32)
    (b2 : FVec Ideal S8x1024 .f32) (r : Fin 2048) (e : Fin 8) (c : Fin 1024) :
    EXPERT x w1 b1 w2 b2 (ix3 r e c)
      = Moe.expert (Moe.tokens x) (Moe.firstW w1) (Moe.firstB b1) (Moe.secondW w2) (Moe.secondB b2) r e c := by
  pointwise [EXPERT]
  rfl

/-- The mixture. -/
theorem mix_at (g : FVec Ideal S2048x8 .f32) (e : FVec Ideal S2048x8x1024 .f32) (r : Fin 2048) (c : Fin 1024) :
    MIX g e (ix3 0 r c) = ∑ k, g (ix2 r k) * e (ix3 r k c) := by
  pointwise [MIX]

/-- The halved mixture. -/
theorem half_at (y : FVec Ideal S1x2048x1024 .f32) (r : Fin 2048) (c : Fin 1024) :
    HALF y (ix3 0 r c) = y (ix3 0 r c) * ((1 / 2 : ℝ) : EReal) := by
  pointwise [HALF]
  rw [Moe.bits_half]

/-- The importance of an expert. -/
theorem imp_at (g : FVec Ideal S2048x8 .f32) (e : Fin 8) : IMP g (ix1 e) = ∑ r, g (ix2 r e) := by
  pointwise [IMP]

/-- A small count's word, read as a number, is the count. -/
theorem number_word (n : ℕ) (hn : n < 2 ^ 31) : FloatOps.sitofp (F := Ideal) FTy.f32 (BitVec.ofNat 32 n) = (n : EReal) := by
  have e : (BitVec.ofNat 32 n).toInt = n := by
    rw [BitVec.toInt_eq_toNat_of_lt (by rw [BitVec.toNat_ofNat]; omega), BitVec.toNat_ofNat]
    omega
  show ((((BitVec.ofNat 32 n).toInt : ℤ) : ℝ) : EReal) = (n : EReal)
  rw [e]
  simp

/-- The load of an expert. -/
theorem load_at (g : FVec Ideal S2048x8 .f32) (e : Fin 8) :
    LOAD g (ix1 e) = ∑ r, if 0 < g (ix2 r e) then (1 : EReal) else 0 := by
  pointwise [LOAD]
  rw [IndicatorCount.fold_addi_setWidth_eq_card, number_word _ (lt_of_le_of_lt (Finset.card_filter_le _ _) (by simp)), Finset.sum_boole]
  refine congrArg (fun s : Finset (Fin 2048) => ((s.card : ℕ) : EReal)) (Finset.filter_congr fun r _ => ?_)
  by_cases h : 0 < g (ix2 r e) <;> simp [h]

/-- Eight less one is seven. -/
theorem seven_at : SEVEN ix0 = ((7 : ℝ) : EReal) := by
  pointwise [SEVEN]
  rw [Moe.bits_eight, show (1#32 : BitVec 32) = BitVec.ofNat 32 1 from rfl, number_word 1 (by norm_num), Nat.cast_one, ← EReal.coe_one,
    ← EReal.coe_sub]
  norm_num

/-- The deviation from the mean. -/
theorem dev_at (v : FVec Ideal S8 .f32) (e : Fin 8) : DEV v (ix1 e) = v (ix1 e) - (∑ e, v (ix1 e)) * ((1 / 8 : ℝ) : EReal) := by
  pointwise [DEV]
  rw [Moe.bits_eight, Ideal.div_coe (by norm_num)]

/-- The mean. -/
theorem mean_at (v : FVec Ideal S8 .f32) : MEAN v ix0 = (∑ e, v (ix1 e)) * ((1 / 8 : ℝ) : EReal) := by
  pointwise [MEAN]
  rw [Moe.bits_eight, Ideal.div_coe (by norm_num)]

/-- The squared coefficient of variation. -/
theorem cv_at (v : FVec Ideal S8 .f32) : CV v ix0 = Moe.cv fun e => v (ix1 e) := by
  pointwise [CV]
  rw [seven_at, if_pos (by exact_mod_cast (by norm_num : (0 : ℝ) < 7)), Ideal.div_coe (by norm_num)]
  simp only [dev_at, mean_at]
  rfl

/-- The second result. -/
theorem total_at (a b : FVec Ideal S_ .f32) (y : FVec Ideal S1x2048x1024 .f32) :
    TOTAL a b y ix0 = a ix0 + b ix0 + (∑ r, ∑ c, Moe.mag (y (ix3 0 r c))) * ((1 / 2097152 : ℝ) : EReal) := by
  pointwise [TOTAL]
  rw [Moe.bits_21, Ideal.div_coe (by norm_num)]
  simp only [Finset.univ_unique, Finset.sum_singleton]
  rfl

/-! ## The gates -/

variable (l : FVec Ideal S2048x8 .f32)

/-- The row's weights before normalising are one and the ratio. -/
theorem exps_pair (r : Fin 2048) (hL : Moe.IsReal fun e => l (ix2 r e)) :
    EXPS (VAL l) (ix2 r 0) = 1 ∧ EXPS (VAL l) (ix2 r 1) = Moe.ratio fun e => l (ix2 r e) := by
  have h0 : VAL l (ix2 r 0) = (fun e => l (ix2 r e)) (fst fun e => l (ix2 r e)) := val_at l r 0
  have h1 : VAL l (ix2 r 1) = (fun e => l (ix2 r e)) (snd fun e => l (ix2 r e)) := val_at l r 1
  rw [exps_at, exps_at, h0, h1]
  generalize (fun e => l (ix2 r e)) = L at *
  rw [max_eq_left (le_fst L (snd L))]
  obtain ⟨a, ha⟩ := hL (fst L)
  refine ⟨?_, rfl⟩
  rw [ha, ← EReal.coe_sub, sub_self]
  show ((Real.exp 0 : ℝ) : EReal) = 1
  rw [Real.exp_zero, EReal.coe_one]

/-- The scattered gates are the row's gates. -/
theorem gates_at (r : Fin 2048) (e : Fin 8) (hL : Moe.IsReal fun e => l (ix2 r e)) :
    GATES l (ix2 r e) = Moe.gate (fun e => l (ix2 r e)) e := by
  have h := ScatterToDense.scatter_eq_GS scatter_S2048x8_S2048x2x2_S2048x2_n_01_01_2 rfl rfl rfl (by norm_num) (by norm_num)
    (broadcastInDim S2048x8 ![] bcast_S_S2048x8 (constant (F := Ideal) S_ .f32 0x00000000#32)) (PAIRS (IND l)) (SOFT (VAL l))
    (fun r k => if h : k < 2 then BitVec.ofNat 32 (pos (fun e => l (ix2 r e)) ⟨k, by omega⟩).val else 0#32)
    (fun r k => if h : k < 2 then SOFT (VAL l) (ix2 r ⟨k, h⟩) else 0)
    (fun i k => (pairs0_at (IND l) i k).trans (rows_at i k))
    (fun i k => by
      rw [dif_pos k.isLt]
      exact (pairs1_at (IND l) i k).trans (cols_at _ i k _ (by omega) (ind_at l i k)))
    (fun i k => by
      rw [dif_pos k.isLt]
      rfl) r e
  have z : (broadcastInDim S2048x8 ![] bcast_S_S2048x8 (constant (F := Ideal) S_ .f32 0x00000000#32)) (ix2 r e) = 0 := by pointwise
  refine h.trans ?_
  rw [ScatterToDense.GS_succ, ScatterToDense.GS_succ, ScatterToDense.GS_zero]
  obtain ⟨e0, e1⟩ := exps_pair l r hL
  have s0 : SOFT (VAL l) (ix2 r 0) = Ideal.div 1 (1 + Moe.ratio fun e => l (ix2 r e)) := by rw [soft_at, e0, e1]
  have s1 : SOFT (VAL l) (ix2 r 1) = Ideal.div (Moe.ratio fun e => l (ix2 r e)) (1 + Moe.ratio fun e => l (ix2 r e)) := by rw [soft_at, e0, e1]
  rw [dif_pos (by norm_num), dif_pos (by norm_num), dif_pos (by norm_num), dif_pos (by norm_num)]
  have word_ : ∀ a b : Fin 8, (a.val = (BitVec.ofNat 32 b.val).toNat) = (a = b) := fun a b => by
    rw [BitVec.toNat_ofNat, Nat.mod_eq_of_lt (by omega), Fin.ext_iff]
  simp only [word_]
  unfold Moe.gate
  by_cases h0 : e = fst fun e => l (ix2 r e)
  · rw [if_pos h0]
    exact (if_neg fun h' => fst_ne_snd _ (h0.symm.trans h')).trans ((if_pos h0).trans s0)
  · rw [if_neg h0]
    by_cases h1 : e = snd fun e => l (ix2 r e)
    · rw [if_pos h1]
      exact (if_pos h1).trans s1
    · rw [if_neg h1]
      exact (if_neg h1).trans ((if_neg h0).trans z)

/-! ## The results -/

variable (m : (ℓ : Loc nD τ sig) → Buf (Elt Ideal) ℓ)

/-- The hypothesis on the device's tokens and gating weights: every row of logits is real. -/
abbrev Real (c : Dev nD) : Prop := Moe.RealLogits (m ((c.tc : Thread nD τ).loc main_arg0)) (m ((c.tc : Thread nD τ).loc main_arg1))

variable {m}

/-- The gates over the argument arrays. -/
theorem gatesOf_at {c : Dev nD} (hR : Real m c) (r : Fin 2048) (e : Fin 8) :
    gatesOf m c (ix2 r e) = Moe.gates (Moe.tokens (m ((c.tc : Thread nD τ).loc main_arg0))) (Moe.gateW (m ((c.tc : Thread nD τ).loc main_arg1))) r e := by
  have h : (fun e => LOGITS (m ((c.tc : Thread nD τ).loc main_arg0)) (m ((c.tc : Thread nD τ).loc main_arg1)) (ix2 r e))
      = Moe.logits (Moe.tokens (m ((c.tc : Thread nD τ).loc main_arg0))) (Moe.gateW (m ((c.tc : Thread nD τ).loc main_arg1))) r :=
    funext fun e => logits_at _ _ r e
  refine (gates_at _ r e (by rw [h]; exact hR r)).trans ?_
  rw [h]
  rfl

/-- The mixture over the argument arrays. -/
theorem mixOf_at {c : Dev nD} (hR : Real m c) (r : Fin 2048) (k : Fin 1024) :
    mixOf m c (ix3 0 r k) = Moe.mixOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) r k := by
  refine (mix_at _ _ r k).trans ?_
  unfold Moe.mixOf Moe.mix
  refine Finset.sum_congr rfl fun e _ => ?_
  rw [gatesOf_at hR, expert_at]

/-- The first result is half the mixture. -/
theorem out0 {c : Dev nD} (hR : Real m c) : Value.res_out0 m c
    = Moe.resultY (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [out0_eq]
  funext i
  obtain ⟨r, k, rfl⟩ : ∃ (r : Fin 2048) (k : Fin 1024), i = ix3 0 r k := ⟨i 1, i 2, by idx_vars i; rw [Subsingleton.elim i0 0]⟩
  refine (half_at _ r k).trans ?_
  rw [mixOf_at hR]
  rfl

/-- The second result is the loss. -/
theorem out1 {c : Dev nD} (hR : Real m c) : Value.res_out1 m c
    = Moe.resultLoss (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [out1_eq]
  funext i
  obtain rfl : i = ix0 := Subsingleton.elim _ _
  refine (total_at _ _ _).trans ?_
  rw [cv_at, cv_at]
  simp only [imp_at, load_at, gatesOf_at hR, mixOf_at hR]
  rfl

end Cert.ReferenceIdeal.Parts

end
-- ==== Proof.Precondition.lean ====
module

public import proofs.«01_k».proof.Proof.Model
public import proofs.«01_k».proof.Pre_x_and_gate_finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

/-! What the precondition says: the entries of `x` and of `w_gate` are real, hence so are the logits. -/

namespace Cert.Pre_x_and_gate_finite
open Facts

/-- The shape relations the precondition states. -/
instance facts : Facts where
  bcast_S_S1x2048x1024 := by decide
  reducesTo_S1x2048x1024_S_d0_1_2 := by decide
  h_S_ := by decide
  bcast_S_S1024x8 := by decide
  reducesTo_S1024x8_S_d0_1 := by decide

/-- A number whose magnitude is below positive infinity, the pattern `0x7F800000`, is real. -/
theorem real_of_abs_lt (a : Ideal .f32) (h : BitVec.ofBool (decide (FloatOps.absf (F := Ideal) a < Ideal.ofBits .f32 0x7F800000#32)) = 1#1) :
    ∃ t : ℝ, a = (t : EReal) := by
  have top : Ideal.ofBits .f32 0x7F800000#32 = ⊤ := by simp [Ideal.ofBits, Ideal.ieee]
  rw [top] at h
  have h' : max (a : EReal) (-(a : EReal)) < ⊤ := by
    by_contra hn
    rw [decide_eq_false (by exact hn)] at h
    exact absurd h (by decide)
  have ht : (a : EReal) ≠ ⊤ := ((le_max_left _ _).trans_lt h').ne
  have hb : (a : EReal) ≠ ⊥ := fun e => by
    rw [e] at h'
    exact absurd h' (by simp)
  exact ⟨EReal.toReal a, (EReal.coe_toReal ht hb).symm⟩

/-- Where the precondition is all ones, the entries of its first two arguments are real. -/
theorem real_of_fn (x : FVec Ideal S1x2048x1024 .f32) (wg : FVec Ideal S1024x8 .f32) (w1 : FVec Ideal S8x256x1024 .f32) (b1 : FVec Ideal S8x256 .f32)
    (w2 : FVec Ideal S8x1024x256 .f32) (b2 : FVec Ideal S8x1024 .f32) (h : fn x wg w1 b1 w2 b2 = fun _ => 1#1) :
    (∀ i, ∃ t : ℝ, x i = (t : EReal)) ∧ ∀ i, ∃ t : ℝ, wg i = (t : EReal) := by
  have h0 : IntOp.andi _ _ = 1#1 := congrFun h ix0
  have hx := IntOp.andi_eq_one.1 h0
  exact ⟨fun i => real_of_abs_lt _ (Host.reduce_andi_all _ _ _ _ ix0 hx.1 i),
    fun i => real_of_abs_lt _ (Host.reduce_andi_all _ _ _ _ ix0 hx.2 i)⟩

end Cert.Pre_x_and_gate_finite

namespace Cert.Moe

/-- A finite sum of products of reals is real. -/
theorem real_sum_mul {n : ℕ} (f g : Fin n → EReal) (hf : ∀ k, ∃ t : ℝ, f k = (t : EReal)) (hg : ∀ k, ∃ t : ℝ, g k = (t : EReal)) :
    ∃ t : ℝ, ∑ k, f k * g k = (t : EReal) := by
  choose a ha using hf
  choose b hb using hg
  refine ⟨∑ k, a k * b k, ?_⟩
  simp only [ha, hb, ← EReal.coe_mul]
  exact (map_sum (⟨⟨Real.toEReal, EReal.coe_zero⟩, EReal.coe_add⟩ : ℝ →+ EReal) _ _).symm

/-- Of real tokens and real gating weights every row of logits is real. -/
theorem real_logits (x : FVec Ideal ⟨3, ![1, 2048, 1024]⟩ .f32) (wg : FVec Ideal ⟨2, ![1024, 8]⟩ .f32)
    (hx : ∀ i, ∃ t : ℝ, x i = (t : EReal)) (hw : ∀ i, ∃ t : ℝ, wg i = (t : EReal)) : RealLogits x wg :=
  fun r e => real_sum_mul _ _ (fun k => hx _) fun k => hw _

end Cert.Moe
-- ==== Proof.Claims.lean ====
module

public import proofs.«01_k».proof.Defs
public import proofs.«01_k».proof.Proof.Final
public import proofs.«01_k».proof.Proof.RefRead
public import proofs.«01_k».proof.Proof.Precondition
public import proofs.«01_k».proof.Proof.Gen.Kernel
public import proofs.«01_k».proof.Proof.Gen.Kernel.Frame
public import proofs.«01_k».proof.Proof.Gen.KernelIdeal.Frame
public import Idealize.ShloMosaic.Adequacy
public import Idealize.ShloMosaic.Init

@[expose] public section

set_option maxRecDepth 16384

noncomputable section

open Idealize.ShloMosaic Idealize.ShloMosaic.TcCoe Idealize.SL.Sem

namespace Cert.Proof

/-- The kernel runs to the end, leaves its arguments as they were and every semaphore at zero. -/
theorem frame_kernel : Cert.quiescent_Kernel := fun m g _ => Cert.Kernel.Gen.frame m g

/-- The idealized kernel does the same. -/
theorem frame_kernelIdeal : Cert.quiescent_KernelIdeal := fun m g _ => Cert.KernelIdeal.Gen.frame m g

/-- And so it does under the precondition. -/
theorem frame_kernelIdeal_pre : Cert.quiescent_KernelIdeal_pre_x_and_gate_finite := fun m g _ => Cert.KernelIdeal.Gen.frame m g

/-- The reference runs to the end, leaves its arguments as they were and every semaphore at zero. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- And so it does under the precondition. -/
theorem frame_reference_pre : Cert.quiescent_ReferenceIdeal_pre_x_and_gate_finite := fun m g _ => frame_reference m g trivial

/-- The one changed constant is the named one, `1 / 7`. -/
theorem preserves : Cert.preserves_Kernel_KernelIdeal :=
  IdealRules.named_const.statement Cert.KernelIdeal.κ "inv_em1" .f32 0x3E124925#32 ((1 / 7 : ℝ) : EReal) rfl

/-- Under the precondition every row of the kernel's logits is real. -/
theorem real_of_pre (m : (ℓ : Loc Cert.KernelIdeal.nD Cert.KernelIdeal.τ Cert.KernelIdeal.sig) → Buf (Elt Ideal) ℓ)
    (h : Cert.Pre_KernelIdeal_x_and_gate_finite m) (c : Dev Cert.KernelIdeal.nD) : Cert.KernelIdeal.Final.Real m c :=
  have e := Cert.Pre_x_and_gate_finite.real_of_fn _ _ _ _ _ _ (h c)
  Cert.Moe.real_logits _ _ e.1 e.2

/-- Half the mixture, over the kernel's argument arrays. -/
abbrev resultY (m : (ℓ : Loc Cert.KernelIdeal.nD Cert.KernelIdeal.τ Cert.KernelIdeal.sig) → Buf (Elt Ideal) ℓ) (c : Dev Cert.KernelIdeal.nD) :=
  Cert.Moe.resultY (Cert.KernelIdeal.Final.ax m c) (Cert.KernelIdeal.Final.ag m c) (Cert.KernelIdeal.Final.aw1 m c) (Cert.KernelIdeal.Final.ab1 m c)
    (Cert.KernelIdeal.Final.aw2 m c) (Cert.KernelIdeal.Final.ab2 m c)

/-- The loss, over the kernel's argument arrays. -/
abbrev resultLoss (m : (ℓ : Loc Cert.KernelIdeal.nD Cert.KernelIdeal.τ Cert.KernelIdeal.sig) → Buf (Elt Ideal) ℓ) (c : Dev Cert.KernelIdeal.nD) :=
  Cert.Moe.resultLoss (Cert.KernelIdeal.Final.ax m c) (Cert.KernelIdeal.Final.ag m c) (Cert.KernelIdeal.Final.aw1 m c) (Cert.KernelIdeal.Final.ab1 m c)
    (Cert.KernelIdeal.Final.aw2 m c) (Cert.KernelIdeal.Final.ab2 m c)

/-- The two results of the reference over arguments that are the kernel's. -/
theorem reference_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hR : Cert.KernelIdeal.Final.Real m c)
    (hag : m' ((c.tc : Thread Cert.ReferenceIdeal.nD Cert.ReferenceIdeal.τ).loc Cert.ReferenceIdeal.main_arg0) = Cert.KernelIdeal.Final.ax m c
      ∧ m' ((c.tc : Thread Cert.ReferenceIdeal.nD Cert.ReferenceIdeal.τ).loc Cert.ReferenceIdeal.main_arg1) = Cert.KernelIdeal.Final.ag m c
      ∧ m' ((c.tc : Thread Cert.ReferenceIdeal.nD Cert.ReferenceIdeal.τ).loc Cert.ReferenceIdeal.main_arg2) = Cert.KernelIdeal.Final.aw1 m c
      ∧ m' ((c.tc : Thread Cert.ReferenceIdeal.nD Cert.ReferenceIdeal.τ).loc Cert.ReferenceIdeal.main_arg3) = Cert.KernelIdeal.Final.ab1 m c
      ∧ m' ((c.tc : Thread Cert.ReferenceIdeal.nD Cert.ReferenceIdeal.τ).loc Cert.ReferenceIdeal.main_arg4) = Cert.KernelIdeal.Final.aw2 m c
      ∧ m' ((c.tc : Thread Cert.ReferenceIdeal.nD Cert.ReferenceIdeal.τ).loc Cert.ReferenceIdeal.main_arg5) = Cert.KernelIdeal.Final.ab2 m c) :
    Cert.ReferenceIdeal.Value.res_out0 m' c = resultY m c ∧ Cert.ReferenceIdeal.Value.res_out1 m' c = resultLoss m c := by
  obtain ⟨h0, h1, h2, h3, h4, h5⟩ := hag
  have hR' : Cert.ReferenceIdeal.Parts.Real m' c := by
    unfold Cert.ReferenceIdeal.Parts.Real
    rw [h0, h1]
    exact hR
  constructor
  · rw [Cert.ReferenceIdeal.Parts.out0 hR', h0, h1, h2, h3, h4, h5]
  · rw [Cert.ReferenceIdeal.Parts.out1 hR', h0, h1, h2, h3, h4, h5]

/-- Under the precondition both programs leave half the mixture and the loss, one function of the arguments each, and the arguments as they were. -/
theorem algebraic : Cert.algebraic_KernelIdeal_ReferenceIdeal_pre_x_and_gate_finite := by
  intro m g m' g' hpre hag
  refine ⟨resultY m, resultLoss m, ?_, ?_⟩
  · run_from Cert.KernelIdeal.Gen.run_main m g
    · exact Cert.KernelIdeal.Final.out_y (real_of_pre m hpre c)
    · exact Cert.KernelIdeal.Final.out_loss (real_of_pre m hpre c)
    · exact Cert.KernelIdeal.Gen.W_main_arg0 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
  · refine (θ_run Cert.ReferenceIdeal.defs _ _).mono (fun r h c => ?_) (Cert.ReferenceIdeal.Value.run (F := Ideal) m' g')
    have e := reference_results m m' c (real_of_pre m hpre c) (hag c)
    exact ⟨(h c).1.trans e.1, (h c).2.1.trans e.2, (h c).2.2⟩

end Cert.Proof
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The claims together: the frames of the three programs, the named constant, and the two results over the precondition. -/
theorem claim : Cert.Claim := ⟨Cert.Kernel.Gen.facts, Cert.KernelIdeal.Gen.facts, Cert.ReferenceIdeal.Gen.facts, Cert.Pre_x_and_gate_finite.facts,
  frame_kernel, frame_kernelIdeal, frame_kernelIdeal_pre, frame_reference, frame_reference_pre, preserves, algebraic⟩

end Cert.Proof

end
